-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1024x1024 : Shape := ⟨2, ![1024, 1024]⟩
abbrev S8x64x1024 : Shape := ⟨3, ![8, 64, 1024]⟩
abbrev S8 : Shape := ⟨1, ![8]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 5
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1024x1024, .f32⟩
  | .local _ .vmem, ⟨0, _⟩ => ⟨S2048x1024, .f32⟩
  | .local _ .vmem, ⟨1, _⟩ => ⟨S1x1024, .f32⟩
  | .local _ .vmem, ⟨2, _⟩ => ⟨S1024x1024, .f32⟩
  | .local _ .vmem, ⟨3, _⟩ => ⟨S8x64x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32 : BitVec 32 := 1024#32
  let v17 : BitVec 32 := Scalar.muli v6 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v19 : BitVec 32 := Scalar.addi v17 v18
  let v20 : BitVec 32 := Scalar.addi v19 c0_i32_12
  let c0_i32_21 : BitVec 32 := 0#32
  ![v20.toNat, 0]
def k0_dev3 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v21 : BitVec 32 := Scalar.muli v6 c2_i32_16
  let v22 : BitVec 32 := Scalar.addi c0_i32_17 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v23 : BitVec 32 := Scalar.muli v5 c1_i32_18
  let v24 : BitVec 32 := Scalar.addi v22 v23
  v24.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v33 : BitVec 32 := Scalar.muli v6 c2_i32_25
  let v34 : BitVec 32 := Scalar.addi c0_i32_26 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v35 : BitVec 32 := Scalar.muli v5 c1_i32_27
  let v36 : BitVec 32 := Scalar.addi v34 v35
  v36.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v45 : BitVec 32 := Scalar.muli v6 c2_i32_34
  let v46 : BitVec 32 := Scalar.addi c0_i32_35 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v47 : BitVec 32 := Scalar.muli v5 c1_i32_36
  let v48 : BitVec 32 := Scalar.addi v46 v47
  v48.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v57 : BitVec 32 := Scalar.muli v6 c2_i32_42
  let v58 : BitVec 32 := Scalar.addi c0_i32_43 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v59 : BitVec 32 := Scalar.muli v5 c1_i32_44
  let v60 : BitVec 32 := Scalar.addi v58 v59
  v60.toNat
def k0_dev7 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v69 : BitVec 32 := Scalar.muli v6 c2_i32_50
  let v70 : BitVec 32 := Scalar.addi c0_i32_51 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v71 : BitVec 32 := Scalar.muli v5 c1_i32_52
  let v72 : BitVec 32 := Scalar.addi v70 v71
  v72.toNat
def k0_dev8 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v81 : BitVec 32 := Scalar.muli v6 c2_i32_58
  let v82 : BitVec 32 := Scalar.addi c0_i32_59 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v83 : BitVec 32 := Scalar.muli v5 c1_i32_60
  let v84 : BitVec 32 := Scalar.addi v82 v83
  v84.toNat
def k0_dev9 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v93 : BitVec 32 := Scalar.muli v6 c2_i32_66
  let v94 : BitVec 32 := Scalar.addi c0_i32_67 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v95 : BitVec 32 := Scalar.muli v5 c1_i32_68
  let v96 : BitVec 32 := Scalar.addi v94 v95
  v96.toNat
def k0_dev10 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v105 : BitVec 32 := Scalar.muli v6 c2_i32_74
  let v106 : BitVec 32 := Scalar.addi c0_i32_75 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v107 : BitVec 32 := Scalar.muli v5 c1_i32_76
  let v108 : BitVec 32 := Scalar.addi v106 v107
  v108.toNat
def k0_off2 (d0 : Dev nD) (c0_i32_91 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_80 : BitVec 32 := 1024#32
  let v116 : BitVec 32 := Scalar.muli v2 c1024_i32_80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_81 : BitVec 32 := 512#32
  let v117 : BitVec 32 := Scalar.muli v5 c512_i32_81
  let v118 : BitVec 32 := Scalar.addi v116 v117
  let v128 : BitVec 32 := Scalar.addi v118 c0_i32_91
  let v129 : Index := Scalar.indexCast v128
  let c0 : Index := 0#32
  ![v129.toNat, 0]
def k0_off3 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_96 : BitVec 32 := 512#32
  let v140 : BitVec 32 := Scalar.muli v5 c512_i32_96
  let v141 : BitVec 32 := Scalar.addi v140 c0_i32_97
  let v151 : Index := Scalar.indexCast v141
  let c0_101 : Index := 0#32
  ![v151.toNat, 0]
def k0_off4 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_96 : BitVec 32 := 512#32
  let v140 : BitVec 32 := Scalar.muli v5 c512_i32_96
  let v141 : BitVec 32 := Scalar.addi v140 c0_i32_97
  let c0_i32_107 : BitVec 32 := 0#32
  ![v141.toNat, 0]
def k0_dev11 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v153 : BitVec 32 := Scalar.muli v2 c2_i32_104
  let v154 : BitVec 32 := Scalar.addi c0_i32_105 v153
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_106 : BitVec 32 := 1#32
  let v155 : BitVec 32 := Scalar.muli v7 c1_i32_106
  let v156 : BitVec 32 := Scalar.addi v154 v155
  v156.toNat
def k0_dev12 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v197 : BitVec 32 := Scalar.muli v2 c2_i32_132
  let v198 : BitVec 32 := Scalar.addi c0_i32_133 v197
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_134 : BitVec 32 := 1#32
  let v199 : BitVec 32 := Scalar.muli v7 c1_i32_134
  let v200 : BitVec 32 := Scalar.addi v198 v199
  v200.toNat
def k0_dev13 (d0 : Dev nD) : Nat :=
  let c0_i32_161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_160 : BitVec 32 := 2#32
  let v241 : BitVec 32 := Scalar.muli v2 c2_i32_160
  let v242 : BitVec 32 := Scalar.addi c0_i32_161 v241
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_162 : BitVec 32 := 1#32
  let v243 : BitVec 32 := Scalar.muli v7 c1_i32_162
  let v244 : BitVec 32 := Scalar.addi v242 v243
  v244.toNat
def k0_dev14 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v285 : BitVec 32 := Scalar.muli v2 c2_i32_188
  let v286 : BitVec 32 := Scalar.addi c0_i32_189 v285
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v287 : BitVec 32 := Scalar.muli v7 c1_i32_190
  let v288 : BitVec 32 := Scalar.addi v286 v287
  v288.toNat
def k0_dev15 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v329 : BitVec 32 := Scalar.muli v2 c2_i32_216
  let v330 : BitVec 32 := Scalar.addi c0_i32_217 v329
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v331 : BitVec 32 := Scalar.muli v7 c1_i32_218
  let v332 : BitVec 32 := Scalar.addi v330 v331
  v332.toNat
def k0_dev16 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v373 : BitVec 32 := Scalar.muli v2 c2_i32_244
  let v374 : BitVec 32 := Scalar.addi c0_i32_245 v373
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_246 : BitVec 32 := 1#32
  let v375 : BitVec 32 := Scalar.muli v7 c1_i32_246
  let v376 : BitVec 32 := Scalar.addi v374 v375
  v376.toNat
def k0_dev17 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v417 : BitVec 32 := Scalar.muli v2 c2_i32_272
  let v418 : BitVec 32 := Scalar.addi c0_i32_273 v417
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_274 : BitVec 32 := 1#32
  let v419 : BitVec 32 := Scalar.muli v7 c1_i32_274
  let v420 : BitVec 32 := Scalar.addi v418 v419
  v420.toNat
def k0_dev18 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v461 : BitVec 32 := Scalar.muli v2 c2_i32_300
  let v462 : BitVec 32 := Scalar.addi c0_i32_301 v461
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_302 : BitVec 32 := 1#32
  let v463 : BitVec 32 := Scalar.muli v7 c1_i32_302
  let v464 : BitVec 32 := Scalar.addi v462 v463
  v464.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelSame.lean ====
/-
The printed kernel and its ideal form are one program, so a run of the one is a run of the other.
-/
module

public import proofs.«01_k».proof.Defs
public import proofs.«01_k».proof.Proof.Gen.Kernel
public import proofs.«01_k».proof.Proof.Gen.KernelIdeal

@[expose] public section

noncomputable section

namespace Cert.KernelSame

open Idealize.ShloMosaic Idealize.ShloMosaic.TcCoe Idealize.SL.Sem

set_option maxRecDepth 100000
set_option maxHeartbeats 0
set_option backward.isDefEq.respectTransparency.types false
set_option backward.isDefEq.respectTransparency false

variable {F : FTy → Type} [FloatOps F] [h1 : Cert.Kernel.Facts] [h2 : Cert.KernelIdeal.Facts]

theorem body_same (a0 : Memref Cert.Kernel.sig .tc .vmem Cert.Kernel.S2048x1024 .f32) h0 a1 h1 a2 h2 a3 h3 a4 a5 a6 a7 :
    Cert.Kernel.cc0_body (F := F) a0 h0 a1 h1 a2 h2 a3 h3 a4 a5 a6 a7 = Cert.KernelIdeal.cc0_body a0 h0 a1 h1 a2 h2 a3 h3 a4 a5 a6 a7 := rfl

theorem kernels_same : Cert.Kernel.defs₀ (F := F) = Cert.KernelIdeal.defs₀ := by
  refine congrArg Defs.onTc (funext fun l => funext fun x => ?_)
  match l, x with
  | 0, (t, s) => exact body_same ..

theorem defs_same : Cert.Kernel.defs (F := F) = Cert.KernelIdeal.defs := congrArg (Pipeline.defs Cert.KernelIdeal.pcfgs) kernels_same

/-- The claim of the printed kernel, from the same run of its ideal form over machine floats. -/
theorem quiescent (H : ∀ m g, θ_run (Cert.KernelIdeal.defs (F := Bits)) (onTc (τ := Cert.KernelIdeal.τ) (Cert.KernelIdeal.main (F := Bits))) ⟨m, fun _ => 0, g⟩
      (fun r => (∀ c : Dev Cert.KernelIdeal.nD, r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0)) :
    Cert.quiescent_Kernel := fun m g _ => by
  rw [defs_same]
  exact H m g

end Cert.KernelSame

end
-- ==== Proof.KernelIdealLoops.lean ====
/-
The kernel's body as loops over the eight chunks.

The printed body is unrolled: it lists the eight copies to the partner along the first mesh axis, the eight chunks of
arithmetic each followed by its copy along the second axis, and the waits. Here the same program is written once per
phase with the chunk number as a parameter, and the two are shown equal.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Run `f` at every chunk number of a list, in order. -/
def each (f : Fin 8 → Prog (TpuEff nD τ sig (Elt F) Λ₀ .tc) PUnit) : List (Fin 8) → Prog (TpuEff nD τ sig (Elt F) Λ₀ .tc) PUnit
  | [] => pure ⟨⟩
  | i :: l => f i >>= fun _ => each f l

/-- The chunk numbers in order. -/
abbrev chunks : List (Fin 8) := [0, 1, 2, 3, 4, 5, 6, 7]

/-- One slot of a semaphore array of eight fits. -/
theorem inb_sem (i : Fin 8) : ∀ a, (![i.val] : Fin 1 → Nat) a + S1.size a ≤ S8.size a := by revert i; decide
/-- One slot of the receive scratch fits. -/
theorem inb_slot (i : Fin 8) : ∀ a, (![i.val, 0, 0] : Fin 3 → Nat) a + S1x64x1024.size a ≤ S8x64x1024.size a := by revert i; decide

/-- The word that names chunk `i`'s first row inside its half. -/
abbrev cw (i : Fin 8) : BitVec 32 := BitVec.ofNat 32 (64 * i.val)

/-- The device each copy along the first axis is addressed to, as the body computes it. -/
def xdev (d : Dev nD) : Fin 8 → Dev nD := ![⟨k0_dev3 d, k0_dev3_lt d⟩, ⟨k0_dev4 d, k0_dev4_lt d⟩, ⟨k0_dev5 d, k0_dev5_lt d⟩,
  ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩]
/-- The device each copy along the second axis is addressed to, as the body computes it. -/
def ydev (d : Dev nD) : Fin 8 → Dev nD := ![⟨k0_dev11 d, k0_dev11_lt d⟩, ⟨k0_dev12 d, k0_dev12_lt d⟩, ⟨k0_dev13 d, k0_dev13_lt d⟩,
  ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩]

section Args

variable (a0 : Memref sig .tc .vmem S2048x1024 .f32) (a1 : Memref sig .tc .vmem S1x1024 .f32) (a2 : Memref sig .tc .vmem S1024x1024 .f32)
  (a3 : Memref sig .tc .vmem S8x64x1024 .f32) (a4 a5 a6 a7 : DmaSems sig S8)

/-- Semaphore `i` of an array of eight. -/
abbrev semAt (a : DmaSems sig S8) (i : Fin 8) : DmaSem sig := ((a.slice (Rect.unit (s := S8) ![i.val] S1.size (inb_sem i))).squeeze S_ squeezes_S1_S_).sem

/-- The rows of the partial sums that chunk `i` sends along the first axis. -/
abbrev srcM (d : Dev nD) (i : Fin 8) : Memref sig .tc .vmem S64x1024 .f32 :=
  a0.slice (Rect.unit (s := S2048x1024) (k0_off1 d (cw i)) S64x1024.size (k0_off1_inb d i)) (fun _ => rfl)
/-- Slot `i` of the receive scratch as a matrix. -/
abbrev slotM (i : Fin 8) : Memref sig .tc .vmem S64x1024 .f32 :=
  (a3.slice (Rect.unit (s := S8x64x1024) ![i.val, 0, 0] S1x64x1024.size (inb_slot i)) (fun _ => rfl)).squeeze S64x1024 squeezes_S1x64x1024_S64x1024
/-- The rows of the result that chunk `i` of device `d` makes. -/
abbrev outM (d : Dev nD) (i : Fin 8) : Memref sig .tc .vmem S64x1024 .f32 :=
  a2.slice (Rect.unit (s := S1024x1024) (k0_off4 d (cw i)) S64x1024.size (k0_off4_inb d i)) (fun _ => rfl)

/-- Chunk `i`'s copy along the first axis. -/
def xsend (d : Dev nD) (i : Fin 8) : Prog (TpuEff nD τ sig (Elt F) Λ₀ .tc) PUnit :=
  Prog.lift (.enqueueDma (srcM a0 d i) (.remote (Dev.tc (xdev d i)) (slotM a3 i) (.dma (semAt a4 i))) (.dma (semAt a5 i)) (View.wordExact_bits rfl) ((View.wordExact_bits rfl).reshape _ _) ⟨⟨rfl, Or.inl rfl⟩, trivial⟩)

/-- Chunk `i`: wait for the partner's rows, add, normalise, store, and copy the rows along the second axis. -/
def chunk (d : Dev nD) (i : Fin 8) : Prog (TpuEff nD τ sig (Elt F) Λ₀ .tc) PUnit := do
  Prog.lift (.waitDma2 (semAt a5 i) (srcM a0 d i) (slotM a3 i) (View.wordExact_bits rfl) ((View.wordExact_bits rfl).reshape _ _))
  let p : Vec F S64x1024 .f32 ← Prog.lift (.load a0 (Rect.unit (s := S2048x1024) (k0_off2 d (cw i)) S64x1024.size (k0_off2_inb d i)).toLoadRect (View.loadsAt_vmem h_S64x1024))
  let q : Vec F S1x64x1024 .f32 ← Prog.lift (.load a3 (Rect.unit (s := S8x64x1024) ![i.val, 0, 0] S1x64x1024.size (inb_slot i)).toLoadRect (View.loadsAt_vmem h_S1x64x1024))
  let g : Vec F S1x1024 .f32 ← Prog.lift (.load a1 (Rect.unit (s := S1x1024) ![0, 0] S1x1024.size inb_S1x1024_S1x1024_0_0).toLoadRect (View.loadsAt_vmem h_S1x1024))
  let _o : Vec F S64x1024 .f32 ← Prog.lift (.load a2 (Rect.unit (s := S1024x1024) (k0_off3 d (cw i)) S64x1024.size (k0_off3_inb d i)).toLoadRect (View.loadsAt_vmem h_S64x1024))
  Prog.lift (.store a2 (Rect.unit (s := S1024x1024) (k0_off3 d (cw i)) S64x1024.size (k0_off3_inb d i)) (k0_pay1 p q g) Finset.univ (View.stores_vmem_bits_univ h_S64x1024 rfl) (.inl rfl))
  Prog.lift (.enqueueDma (outM a2 d i) (.remote (Dev.tc (ydev d i)) (outM a2 d i) (.dma (semAt a6 i))) (.dma (semAt a7 i)) (View.wordExact_bits rfl) (View.wordExact_bits rfl) ⟨⟨rfl, Or.inl rfl⟩, trivial⟩)

/-- Wait for the rows that the partner along the second axis makes in its chunk `i`. -/
def ywait (d : Dev nD) (i : Fin 8) : Prog (TpuEff nD τ sig (Elt F) Λ₀ .tc) PUnit :=
  Prog.lift (.waitDma2 (semAt a7 i) (outM a2 d i) (outM a2 d i) (View.wordExact_bits rfl) (View.wordExact_bits rfl))

/-- Wait until both of chunk `i`'s own copies have left. -/
def swait (d : Dev nD) (i : Fin 8) : Prog (TpuEff nD τ sig (Elt F) Λ₀ .tc) PUnit := do
  Prog.lift (.waitDma2 (semAt a4 i) (slotM a3 i) (srcM a0 d i) ((View.wordExact_bits rfl).reshape _ _) (View.wordExact_bits rfl))
  Prog.lift (.waitDma2 (semAt a6 i) (outM a2 d i) (outM a2 d i) (View.wordExact_bits rfl) (View.wordExact_bits rfl))

/-- The runtime's barrier semaphore. -/
abbrev barS : Sem sig := (SemArray.scalar (sig.barrier 0 rfl) : Sems sig S_).sem

/-- The whole body: the handshake, then the phases in order. -/
def loops : Prog (TpuEff nD τ sig (Elt F) Λ₀ .tc) PUnit := do
  let d ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  each (xsend a0 a3 a4 a5 d) chunks
  each (chunk a0 a1 a2 a3 a5 a6 a7 d) chunks
  each (ywait a2 a7 d) chunks
  each (swait a0 a2 a3 a4 a6 d) chunks

set_option maxRecDepth 65536 in
set_option maxHeartbeats 4000000 in
/-- The printed body is the loops. -/
theorem body_eq_loops (h0 : a0.IsWhole) (h1 : a1.IsWhole) (h2 : a2.IsWhole) (h3 : a3.IsWhole) :
    cc0_body (F := F) a0 h0 a1 h1 a2 h2 a3 h3 a4 a5 a6 a7 = loops a0 a1 a2 a3 a4 a5 a6 a7 := rfl

end Args

end Cert.KernelIdealTalk

end
-- ==== Proof.KernelIdealRows.lean ====
/-
Which rows the kernel's copies and stores touch, and what they hold.

A device sits at `(c / 2, c % 2)` of the two-by-two mesh. `xp c` is its partner along the first axis and `yp c` its
partner along the second. The contents of the receive scratch (`slotAt`) and of the result (`outAt`) are written once,
as functions of what every device's staging buffers hold, and the copies and stores of the body are shown to produce
them on the rows they write.
-/
module

public import proofs.«01_k».proof.Proof.KernelIdealLoops
public import Idealize.ShloMosaic.Lib.Pointwise.Index
public import Idealize.ShloMosaic.Lib.Pointwise.Reshape
public import Idealize.ShloMosaic.Lib.Pipeline.ValueKit.Geometry

@[expose] public section

noncomputable section

namespace Cert.KernelIdealTalk

open Cert.KernelIdeal Cert.KernelIdeal.Gen

open Idealize.ShloMosaic
open Idealize.ShloMosaic.TcCoe
open Idealize.SL Idealize.SL.RA Idealize.SL.BI

variable {F : FTy → Type} [FloatOps F]

/-! ## Devices -/

/-- The partner along the first mesh axis. -/
def xp (c : Dev nD) : Dev nD := ⟨(c.val % 2 + 2) - 2 * (c.val / 2), by have := c.isLt; change c.val < 4 at this; change _ < 4; omega⟩
/-- The partner along the second mesh axis. -/
def yp (c : Dev nD) : Dev nD := ⟨(2 * (c.val / 2) + 1) - c.val % 2, by have := c.isLt; change c.val < 4 at this; change _ < 4; omega⟩
theorem xp_xp (c : Dev nD) : xp (xp c) = c := by revert c; decide
theorem yp_yp (c : Dev nD) : yp (yp c) = c := by revert c; decide
theorem xp_ne_yp (c : Dev nD) : xp c ≠ yp c := by revert c; decide
/-- The partners, as permutations of the devices. -/
def xperm : Dev nD ≃ Dev nD := ⟨xp, xp, xp_xp, xp_xp⟩
def yperm : Dev nD ≃ Dev nD := ⟨yp, yp, yp_yp, yp_yp⟩

theorem xp_row (c : Dev nD) : (xp c).val / 2 = 1 - c.val / 2 := by revert c; decide
theorem xp_col (c : Dev nD) : (xp c).val % 2 = c.val % 2 := by revert c; decide
theorem yp_row (c : Dev nD) : (yp c).val / 2 = c.val / 2 := by revert c; decide
theorem yp_col (c : Dev nD) : (yp c).val % 2 = 1 - c.val % 2 := by revert c; decide
theorem dev_row_lt (c : Dev nD) : c.val / 2 < 2 := by revert c; decide
theorem dev_col_lt (c : Dev nD) : c.val % 2 < 2 := Nat.mod_lt _ (by decide)

/-- Every device the body computes is the partner. -/
theorem sdev1_eq (c : Dev nD) : (⟨k0_dev1 c, k0_dev1_lt c⟩ : Dev nD) = xp c := Fin.ext (k0_dev1_eq c)
theorem sdev2_eq (c : Dev nD) : (⟨k0_dev2 c, k0_dev2_lt c⟩ : Dev nD) = yp c := Fin.ext (k0_dev2_eq c)
theorem xdev_eq (c : Dev nD) (i : Fin 8) : xdev c i = xp c := by
  refine Fin.ext ?_
  fin_cases i
  · exact k0_dev3_eq c
  · exact k0_dev4_eq c
  · exact k0_dev5_eq c
  · exact k0_dev6_eq c
  · exact k0_dev7_eq c
  · exact k0_dev8_eq c
  · exact k0_dev9_eq c
  · exact k0_dev10_eq c
theorem ydev_eq (c : Dev nD) (i : Fin 8) : ydev c i = yp c := by
  refine Fin.ext ?_
  fin_cases i
  · exact k0_dev11_eq c
  · exact k0_dev12_eq c
  · exact k0_dev13_eq c
  · exact k0_dev14_eq c
  · exact k0_dev15_eq c
  · exact k0_dev16_eq c
  · exact k0_dev17_eq c
  · exact k0_dev18_eq c

/-- The device of `c`'s row of the mesh at column `h`. -/
def rowDev (c : Dev nD) (h : Fin 2) : Dev nD := ⟨2 * (c.val / 2) + h.val, by have := dev_row_lt c; have := h.isLt; change _ < 4; omega⟩

/-! ## The buffers and their rows -/

abbrev pM : Memref sig .tc .vmem S2048x1024 .f32 := Memref.whole cc0_stg0_0
abbrev gM : Memref sig .tc .vmem S1x1024 .f32 := Memref.whole cc0_stg1_0
abbrev oM : Memref sig .tc .vmem S1024x1024 .f32 := Memref.whole cc0_stg2_0
abbrev rM : Memref sig .tc .vmem S8x64x1024 .f32 := Memref.whole cc0_scratch0

/-- The first row of chunk `i` among the 1024 rows of a result. -/
abbrev orow (c : Dev nD) (i : Fin 8) : ℕ := 512 * (c.val % 2) + 64 * i.val

theorem src_emb (c : Dev nD) (i : Fin 8) (k : S64x1024.Idx) :
    (((srcM pM c i).view.emb k : S2048x1024.Idx) 0 : ℕ) = 1024 * (1 - c.val / 2) + orow c i + (k 0 : ℕ)
      ∧ (((srcM pM c i).view.emb k : S2048x1024.Idx) 1 : ℕ) = (k 1 : ℕ) := by
  have h := ValueKit.view_emb_slice_whole_unit_val cc0_stg0_0 (k0_off1 c (cw i)) S64x1024.size (k0_off1_inb c i) k
  have e0 : k0_off1 c (cw i) 0 = (512 * (c.val % 2) + 64 * i.val + 1024) - 1024 * (c.val / 2) := congrFun (k0_off1_eq c i) 0
  have e1 : k0_off1 c (cw i) 1 = 0 := congrFun (k0_off1_eq c i) 1
  have hr := dev_row_lt c
  refine ⟨(h (0 : Fin 2)).trans ((congrArg (· + (k 0 : ℕ)) e0).trans ?_), (h (1 : Fin 2)).trans ((congrArg (· + (k 1 : ℕ)) e1).trans ?_)⟩
  · show (512 * (c.val % 2) + 64 * i.val + 1024) - 1024 * (c.val / 2) + (k 0 : ℕ) = 1024 * (1 - c.val / 2) + (512 * (c.val % 2) + 64 * i.val) + (k 0 : ℕ)
    omega
  · show 0 + (k 1 : ℕ) = _; omega

theorem out_emb (c : Dev nD) (i : Fin 8) (k : S64x1024.Idx) :
    (((outM oM c i).view.emb k : S1024x1024.Idx) 0 : ℕ) = orow c i + (k 0 : ℕ)
      ∧ (((outM oM c i).view.emb k : S1024x1024.Idx) 1 : ℕ) = (k 1 : ℕ) := by
  have h := ValueKit.view_emb_slice_whole_unit_val cc0_stg2_0 (k0_off4 c (cw i)) S64x1024.size (k0_off4_inb c i) k
  have e0 : k0_off4 c (cw i) 0 = orow c i := congrFun (k0_off4_eq c i) 0
  have e1 : k0_off4 c (cw i) 1 = 0 := congrFun (k0_off4_eq c i) 1
  refine ⟨(h (0 : Fin 2)).trans (congrArg (· + (k 0 : ℕ)) e0), (h (1 : Fin 2)).trans ((congrArg (· + (k 1 : ℕ)) e1).trans ?_)⟩
  show 0 + (k 1 : ℕ) = _; omega

/-- The rows a chunk stores are the rows it copies out. -/
theorem off3_eq_off4 (c : Dev nD) (i : Fin 8) : k0_off3 c (cw i) = k0_off4 c (cw i) := (k0_off3_eq c i).trans (k0_off4_eq c i).symm

theorem slice_congr {off off' : Fin S1024x1024.rank → ℕ} (e : off = off') (h : ∀ a, off a + S64x1024.size a ≤ S1024x1024.size a)
    (h' : ∀ a, off' a + S64x1024.size a ≤ S1024x1024.size a) :
    (oM.view.slice (Rect.unit (s := S1024x1024) off S64x1024.size h) : View sig .tc .vmem S64x1024 .f32)
      = oM.view.slice (Rect.unit (s := S1024x1024) off' S64x1024.size h') := by
  subst e; rfl

/-- A chunk stores through the rows it copies out. -/
theorem store_view (c : Dev nD) (i : Fin 8) :
    (oM.access (Rect.unit (s := S1024x1024) (k0_off3 c (cw i)) S64x1024.size (k0_off3_inb c i)) : View sig .tc _ _ _) = (outM oM c i).view := by
  exact slice_congr (off3_eq_off4 c i) _ _

theorem slot_emb (i : Fin 8) (k : S64x1024.Idx) :
    ((slotM rM i).view.emb k : S8x64x1024.Idx) = ix3 i (k 0) (k 1) := by
  have hk : Shape.reshapeEquiv (s := S1x64x1024) (s' := S64x1024) squeezes_S1x64x1024_S64x1024.numel_eq k = ix3 (⟨0, Nat.one_pos⟩ : Fin 1) (k 0) (k 1) :=
    Shape.reshapeEquiv_eq_of_vals _ _ _ ((0 * 64 + (k 0).val) * 1024 + (k 1).val) ((k 0).val * 1024 + (k 1).val)
      (Shape.rowMajor_val_three (d := ![1, 64, 1024]) _) (Shape.rowMajor_val_two (d := ![64, 1024]) _) (by omega)
  have h := ValueKit.view_emb_slice_whole_unit_val cc0_scratch0 ![i.val, 0, 0] S1x64x1024.size (inb_slot i)
  have e : (slotM rM i).view.emb k = ((View.whole cc0_scratch0).slice (Rect.unit (s := S8x64x1024) ![i.val, 0, 0] S1x64x1024.size (inb_slot i))).emb
      (Shape.reshapeEquiv (s := S1x64x1024) (s' := S64x1024) squeezes_S1x64x1024_S64x1024.numel_eq k) := rfl
  rw [e, hk]
  funext a
  refine Fin.ext ((h _ a).trans ?_)
  match a with
  | ⟨0, _⟩ => show i.val + 0 = i.val; rfl
  | ⟨1, _⟩ => show 0 + (k 0).val = (k 0).val; omega
  | ⟨2, _⟩ => show 0 + (k 1).val = (k 1).val; omega

/-- The rows sent from chunk `i`. -/
abbrev pSet (c : Dev nD) (i : Fin 8) : Finset S2048x1024.Idx := (srcM pM c i).view.set
/-- Slot `i` of the receive scratch. -/
abbrev sSet (i : Fin 8) : Finset S8x64x1024.Idx := (slotM rM i).view.set
/-- The rows of the result that chunk `i` of device `c` makes. -/
abbrev oSet (c : Dev nD) (i : Fin 8) : Finset S1024x1024.Idx := (outM oM c i).view.set

theorem mem_pSet {c : Dev nD} {i : Fin 8} {j : S2048x1024.Idx} (h : j ∈ pSet c i) :
    1024 * (1 - c.val / 2) + orow c i ≤ (j 0 : ℕ) ∧ (j 0 : ℕ) < 1024 * (1 - c.val / 2) + orow c i + 64 := by
  obtain ⟨k, -, rfl⟩ := Finset.mem_map.mp h
  have hk : (k 0 : ℕ) < 64 := (k 0).isLt
  have e := (src_emb c i k).1
  omega

theorem mem_sSet {i : Fin 8} {j : S8x64x1024.Idx} : j ∈ sSet i ↔ j 0 = i := by
  constructor
  · intro h
    obtain ⟨k, -, rfl⟩ := Finset.mem_map.mp h
    exact congrFun (slot_emb i k) 0
  · rintro rfl
    refine Finset.mem_map.mpr ⟨ix2 (j 1) (j 2), Finset.mem_univ _, ?_⟩
    exact (slot_emb (j 0) _).trans (ix3_eta j)

theorem mem_oSet {c : Dev nD} {i : Fin 8} {j : S1024x1024.Idx} :
    j ∈ oSet c i ↔ orow c i ≤ (j 0 : ℕ) ∧ (j 0 : ℕ) < orow c i + 64 := by
  constructor
  · intro h
    obtain ⟨k, -, rfl⟩ := Finset.mem_map.mp h
    have hk : (k 0 : ℕ) < 64 := (k 0).isLt
    have e := (out_emb c i k).1
    omega
  · rintro ⟨h1, h2⟩
    refine Finset.mem_map.mpr ⟨ix2 (⟨(j 0 : ℕ) - orow c i, by omega⟩ : Fin 64) (j 1), Finset.mem_univ _, ?_⟩
    have e := out_emb c i (ix2 (⟨(j 0 : ℕ) - orow c i, by omega⟩ : Fin 64) (j 1))
    funext a
    match a with
    | ⟨0, _⟩ => exact Fin.ext (e.1.trans (by show orow c i + ((j 0 : ℕ) - orow c i) = (j 0 : ℕ); omega))
    | ⟨1, _⟩ => exact Fin.ext e.2

theorem pSet_disj (c : Dev nD) {i i' : Fin 8} (h : i ≠ i') : Disjoint (pSet c i) (pSet c i') := by
  rw [Finset.disjoint_left]; intro j hj hj'
  have a := mem_pSet hj; have b := mem_pSet hj'
  unfold orow at a b
  exact h (Fin.ext (by omega))
theorem sSet_disj {i i' : Fin 8} (h : i ≠ i') : Disjoint (sSet i) (sSet i') := by
  rw [Finset.disjoint_left]; intro j hj hj'
  exact h ((mem_sSet.mp hj).symm.trans (mem_sSet.mp hj'))
theorem sSet_cover : Finset.univ.biUnion sSet = Finset.univ := by
  ext j; simp only [Finset.mem_biUnion, Finset.mem_univ, true_and, iff_true]
  exact ⟨j 0, mem_sSet.mpr rfl⟩

/-- The sixteen chunks of a result: eight of the device's own, eight of its partner's. -/
abbrev oBoth (c : Dev nD) (x : Bool × Fin 8) : Finset S1024x1024.Idx := oSet (if x.1 then c else yp c) x.2
theorem oBoth_disj (c : Dev nD) {x x' : Bool × Fin 8} (h : x ≠ x') : Disjoint (oBoth c x) (oBoth c x') := by
  rw [Finset.disjoint_left]; intro j hj hj'
  have a := mem_oSet.mp hj; have b := mem_oSet.mp hj'
  obtain ⟨u, i⟩ := x; obtain ⟨u', i'⟩ := x'
  have hy := yp_col c; have hc := dev_col_lt c
  have hi := i.isLt; have hi' := i'.isLt
  unfold orow at a b
  apply h
  cases u <;> cases u' <;> simp only [if_true, if_false, Bool.false_eq_true, hy] at a b
  · exact congrArg _ (Fin.ext (by omega))
  · exfalso; omega
  · exfalso; omega
  · exact congrArg _ (Fin.ext (by omega))
theorem oBoth_cover (c : Dev nD) : Finset.univ.biUnion (oBoth c) = Finset.univ := by
  ext j; simp only [Finset.mem_biUnion, Finset.mem_univ, true_and, iff_true]
  have hj : (j 0 : ℕ) < 1024 := (j 0).isLt
  have hy := yp_col c; have hc := dev_col_lt c
  refine ⟨(decide ((j 0 : ℕ) / 512 = c.val % 2), ⟨(j 0 : ℕ) % 512 / 64, by omega⟩), mem_oSet.mpr ?_⟩
  unfold orow
  by_cases e : (j 0 : ℕ) / 512 = c.val % 2
  · simp only [e, decide_true, if_true]; constructor <;> omega
  · simp only [e, decide_false, if_false, Bool.false_eq_true, hy]; constructor <;> omega

/-! ## What the buffers hold -/

variable (P : Dev nD → cc0_stg0_0.ty.Contents (Elt F)) (Gm : Dev nD → cc0_stg1_0.ty.Contents (Elt F))

/-- The receive scratch of `c` once every slot has landed: the first-axis partner's rows of this device's part. -/
def slotAt (c : Dev nD) : cc0_scratch0.ty.Contents (Elt F) := fun (j : S8x64x1024.Idx) =>
  (show Vec F S2048x1024 .f32 from P (xp c)) (ix2 (⟨1024 * (c.val / 2) + orow c (j 0) + (j 1 : ℕ), by
    have h1 := dev_row_lt c; have h2 := dev_col_lt c; have h3 : (j 0 : ℕ) < 8 := (j 0).isLt; have h4 : (j 1 : ℕ) < 64 := (j 1).isLt
    show 1024 * (c.val / 2) + (512 * (c.val % 2) + 64 * (j 0 : ℕ)) + (j 1 : ℕ) < 2048
    omega⟩ : Fin 2048) (j 2))

/-- What chunk `i` of device `c` stores. -/
def chunkVal (c : Dev nD) (i : Fin 8) : Vec F S64x1024 .f32 :=
  k0_pay1
    (pM.view.readAt (Elt F) (Rect.unit (s := S2048x1024) (k0_off2 c (cw i)) S64x1024.size (k0_off2_inb c i)).toLoadRect (P c))
    (rM.view.readAt (Elt F) (Rect.unit (s := S8x64x1024) ![i.val, 0, 0] S1x64x1024.size (inb_slot i)).toLoadRect (slotAt P c))
    (gM.view.readAt (Elt F) (Rect.unit (s := S1x1024) ![0, 0] S1x1024.size inb_S1x1024_S1x1024_0_0).toLoadRect (Gm c))

/-- The result of `c`: row by row, what the device of its mesh row that makes the row stores. -/
def outAt (c : Dev nD) : cc0_stg2_0.ty.Contents (Elt F) := fun (j : S1024x1024.Idx) =>
  chunkVal P Gm (rowDev c ⟨(j 0 : ℕ) / 512, by have : (j 0 : ℕ) < 1024 := (j 0).isLt; omega⟩)
    ⟨(j 0 : ℕ) % 512 / 64, by omega⟩ (ix2 (⟨(j 0 : ℕ) % 64, by omega⟩ : Fin 64) (j 1))

theorem rowDev_col (c : Dev nD) (h : Fin 2) (e : (h : ℕ) = c.val % 2) : rowDev c h = c :=
  Fin.ext (by show 2 * (c.val / 2) + h.val = c.val; omega)
theorem rowDev_yp (c : Dev nD) (h : Fin 2) : rowDev (yp c) h = rowDev c h :=
  Fin.ext (by show 2 * ((yp c).val / 2) + h.val = 2 * (c.val / 2) + h.val; rw [yp_row])
/-- Partners along the second axis end with one result. -/
theorem outAt_yp (c : Dev nD) : outAt P Gm (yp c) = outAt P Gm c := by
  funext j; unfold outAt; rw [rowDev_yp]

/-- Writing through a view what another contents reads there gives the other contents there. -/
theorem write_read_on {s : Shape} {e : EltTy} {sp : Space} {κ : Kind} (v : View sig κ sp s e) (f g : v.ty.Contents (Elt F))
    {j : v.ty.shape.Idx} (hj : j ∈ v.set) : v.write (Elt F) f (v.read (Elt F) g) Finset.univ j = g j := by
  obtain ⟨k, -, rfl⟩ := Finset.mem_map.mp hj
  rw [View.write_emb_of_mem _ _ (Finset.mem_univ k)]
  simp [View.read]

/-- The rows that land in a slot are the scratch's own final contents. -/
theorem land_slot (c : Dev nD) (i : Fin 8) (fd : cc0_scratch0.ty.Contents (Elt F)) :
    ∀ j ∈ (slotM rM i).view.set,
      (slotM rM i).view.write (Elt F) fd ((srcM pM c i).view.read (Elt F) (P c)) Finset.univ j = slotAt P (xp c) j := by
  intro j hj
  obtain ⟨k, -, rfl⟩ := Finset.mem_map.mp hj
  rw [View.write_emb_of_mem _ _ (Finset.mem_univ k)]
  show P c ((srcM pM c i).view.emb k) = _
  have e : ((slotM rM i).view.emb k : S8x64x1024.Idx) = ix3 i (k 0) (k 1) := slot_emb i k
  have h := src_emb c i k
  rw [e]
  unfold slotAt
  rw [xp_xp]
  refine congrArg (P c) ?_
  funext a
  match a with
  | ⟨0, _⟩ => exact Fin.ext (h.1.trans (by show _ = 1024 * ((xp c).val / 2) + (512 * ((xp c).val % 2) + 64 * i.val) + (k 0 : ℕ); rw [xp_row, xp_col]))
  | ⟨1, _⟩ => exact Fin.ext h.2

/-- What a chunk stores is the result on its rows. -/
theorem store_out (c : Dev nD) (i : Fin 8) (f : cc0_stg2_0.ty.Contents (Elt F)) :
    ∀ j ∈ (outM oM c i).view.set,
      (outM oM c i).view.write (Elt F) f (chunkVal P Gm c i) Finset.univ j = outAt P Gm c j := by
  intro j hj
  obtain ⟨k, -, rfl⟩ := Finset.mem_map.mp hj
  rw [View.write_emb_of_mem _ _ (Finset.mem_univ k)]
  have h := out_emb c i k
  have hk : (k 0 : ℕ) < 64 := (k 0).isLt
  have hi := i.isLt
  have hc := dev_col_lt c
  show chunkVal P Gm c i k = outAt P Gm c _
  unfold outAt
  rw [rowDev_col c _ (by show _ / 512 = _; rw [h.1]; unfold orow; omega)]
  congr 1
  · exact Fin.ext (by show i.val = _ % 512 / 64; rw [h.1]; unfold orow; omega)
  · funext a
    match a with
    | ⟨0, _⟩ => exact Fin.ext (by show (k 0 : ℕ) = _ % 64; rw [h.1]; unfold orow; omega)
    | ⟨1, _⟩ => exact Fin.ext h.2.symm

end Cert.KernelIdealTalk

end
-- ==== Proof.KernelIdealProtocol.lean ====
/-
The protocol the four devices follow: which semaphore is paid by whom, with what amount, and what each payment hands over.

Every device has one barrier cell, paid once by each of its two partners, and four arrays of eight copy cells: the send
and receive cells of the copies along the first mesh axis, and those of the copies along the second. A barrier payment
hands over the rows the payer is about to receive into; a receive cell's payment hands over the rows that landed; a send
cell's payment gives the rows that were read back.
-/
module

public import proofs.«01_k».proof.Proof.KernelIdealRows
public import Idealize.ShloMosaic.Lib.Rounds
public import Idealize.ShloMosaic.Lib.Pipeline.RegionTalk

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- The four arrays of copy semaphores, eight each: sends and receives along the first axis, sends and receives along the second. -/
abbrev dsem (k : Fin 4) (i : Fin 8) : DmaSem sig := semAt ((![cc0_scratch1, cc0_scratch2, cc0_scratch3, cc0_scratch4] : Fin 4 → DmaSems sig S8) k) i
theorem dsem_val (k : Fin 4) (i : Fin 8) : (dsem k i).val = 3 + 8 * k.val + i.val := by revert k i; decide

abbrev barCell (c : Dev nD) : GSem nD τ sig := ((c : Thread nD τ), .reg barS)
abbrev dCell (k : Fin 4) (c : Dev nD) (i : Fin 8) : GSem nD τ sig := ((c : Thread nD τ), .dma (dsem k i))

theorem dsem_inj {k k' : Fin 4} {i i' : Fin 8} (h : dsem k i = dsem k' i') : k = k' ∧ i = i' := by
  have e := congrArg Fin.val h
  rw [dsem_val, dsem_val] at e
  exact ⟨Fin.ext (by omega), Fin.ext (by omega)⟩
theorem dCell_inj {k k' : Fin 4} {c c' : Dev nD} {i i' : Fin 8} (h : dCell k c i = dCell k' c' i') : k = k' ∧ c = c' ∧ i = i' := by
  have h1 : c = c' := congrArg (fun g : GSem nD τ sig => g.1.1) h
  have h2 : SemLoc.dma (dsem k i) = (SemLoc.dma (dsem k' i') : SemLoc sig) := congrArg Prod.snd h
  have h3 := dsem_inj (SemLoc.dma.inj h2)
  exact ⟨h3.1, h1, h3.2⟩
theorem barCell_inj {c c' : Dev nD} (h : barCell c = barCell c') : c = c' := congrArg (fun g : GSem nD τ sig => g.1.1) h
theorem dCell_ne_bar (k : Fin 4) (c c' : Dev nD) (i : Fin 8) : dCell k c i ≠ barCell c' := fun h => by
  have := congrArg Prod.snd h; cases this

/-- What one copy of sixty-four rows adds to a copy semaphore. -/
def N : ℕ := (outM oM (0 : Dev nD) 0).view.dmaCredit
theorem N_pos : 0 < N := View.dmaCredit_pos _ (by decide)
theorem N_slot (i : Fin 8) : (slotM rM i).view.dmaCredit = N := rfl
theorem N_out (c : Dev nD) (i : Fin 8) : (outM oM c i).view.dmaCredit = N := rfl
theorem N_src (c : Dev nD) (i : Fin 8) : (srcM pM c i).view.dmaCredit = N := rfl

/-! ## Rows held -/

/-- Slot `i` of device `c`'s receive scratch, at contents `f`. -/
def sPts (c : Dev nD) (i : Fin 8) (f : cc0_scratch0.ty.Contents (Elt F)) : sProp 𝕄 :=
  (slotM rM i).view.loc (c : Thread nD τ) ↦[(slotM rM i).view.set]{fullShare} f
/-- On device `c`, the rows of the result that chunk `i` of device `d` makes, at contents `f`. -/
def oPts (c d : Dev nD) (i : Fin 8) (f : cc0_stg2_0.ty.Contents (Elt F)) : sProp 𝕄 :=
  (outM oM d i).view.loc (c : Thread nD τ) ↦[(outM oM d i).view.set]{fullShare} f
/-- The rows device `c` sends from chunk `i`, at contents `f`. -/
def pPts (c : Dev nD) (i : Fin 8) (f : cc0_stg0_0.ty.Contents (Elt F)) : sProp 𝕄 :=
  (srcM pM c i).view.loc (c : Thread nD τ) ↦[(srcM pM c i).view.set]{fullShare} f

instance sPts_storable (c : Dev nD) (i : Fin 8) (f) : BI.Storable (upEmb : UEmb _ 𝕄) (sPts (F := F) c i f) := by unfold sPts; infer_instance
instance oPts_storable (c d : Dev nD) (i : Fin 8) (f) : BI.Storable (upEmb : UEmb _ 𝕄) (oPts (F := F) c d i f) := by unfold oPts; infer_instance
instance pPts_storable (c : Dev nD) (i : Fin 8) (f) : BI.Storable (upEmb : UEmb _ 𝕄) (pPts (F := F) c i f) := by unfold pPts; infer_instance

/-! ## The schedule -/

variable (P : Dev nD → cc0_stg0_0.ty.Contents (Elt F)) (Gm : Dev nD → cc0_stg1_0.ty.Contents (Elt F))

/-- Slot `i` of `xp c`, to be written, and that its receive cell is at its first round. -/
def xOffer (c : Dev nD) (i : Fin 8) : sProp 𝕄 := iprop((∃ f, sPts c i f) ∗ reached ER (dCell 1 c i) 0)
/-- The rows of chunk `i` of `yp c` in the result of `c`, to be written, and that their receive cell is at its first round. -/
def yOffer (c : Dev nD) (i : Fin 8) : sProp 𝕄 := iprop((∃ f, oPts c (yp c) i f) ∗ reached ER (dCell 3 c i) 0)

/-- What a barrier payment hands device `c`: from its first-axis partner (`true`) that partner's receive slots, from its
    second-axis partner (`false`) the rows of that partner's result which `c` makes. -/
def barPay (c : Dev nD) (d : Bool) : sProp 𝕄 :=
  if d then bigSep Finset.univ fun i : Fin 8 => xOffer (xp c) i else bigSep Finset.univ fun i : Fin 8 => yOffer (yp c) i

/-- What the payment of copy semaphore `n` of the thirty-two hands device `c`. -/
def dmaPay (c : Dev nD) (k : ℕ) (i : Fin 8) : sProp 𝕄 :=
  if k = 0 then pPts c i (P c)
  else if k = 1 then sPts c i (slotAt P c)
  else if k = 2 then oPts c c i (outAt P Gm c)
  else oPts c (yp c) i (outAt P Gm c)

/-- One round. A barrier cell has two payments of one unit; a copy cell one payment of a copy's credit. -/
def talkRd : Rounds.Schedule (GSem nD τ sig) Bool 𝕄 where
  duties g r := if r = 0 ∧ g.1.2 = .tc then (match g.2 with
    | .reg s => if s = barS then Finset.univ else ∅
    | .dma s => if 3 ≤ s.val then {false} else ∅) else ∅
  unitless _ := False
  amount g _ _ := match g.2 with | .reg _ => 1 | .dma _ => N
  payload g _ d := match g.2 with
    | .reg _ => barPay g.1.1 d
    | .dma s => dmaPay P Gm g.1.1 ((s.val - 3) / 8) ⟨(s.val - 3) % 8, Nat.mod_lt _ (by decide)⟩
  amount_pos g _ _ _ := by
    rcases g with ⟨t, s | s⟩
    · exact Nat.one_pos
    · exact N_pos

instance talkRd_payload_storable (g : GSem nD τ sig) (r : ℕ) (d : Bool) :
    BI.Storable (upEmb : UEmb _ 𝕄) ((talkRd P Gm).payload g r d) := by
  rcases g with ⟨t, s | s⟩
  · show BI.Storable upEmb (barPay t.1 d)
    unfold barPay xOffer yOffer
    split <;> infer_instance
  · show BI.Storable upEmb (dmaPay P Gm t.1 _ _)
    unfold dmaPay
    (repeat' split) <;> infer_instance

section Sched
variable (c : Dev nD) (k : Fin 4) (i : Fin 8)

theorem duties_bar : (talkRd P Gm).duties (barCell c) 0 = Finset.univ := by
  dsimp only [talkRd]; rw [if_pos ⟨rfl, rfl⟩, if_pos rfl]
theorem duties_d : (talkRd P Gm).duties (dCell k c i) 0 = {false} := by
  dsimp only [talkRd]; rw [if_pos ⟨rfl, rfl⟩, if_pos (by rw [dsem_val]; omega)]
theorem duties_later (g : GSem nD τ sig) : ∀ r, 1 ≤ r → (talkRd P Gm).duties g r = ∅ :=
  fun r hr => by dsimp only [talkRd]; rw [if_neg fun h => by omega]
theorem amount_bar (d : Bool) : (talkRd P Gm).amount (barCell c) 0 d = 1 := rfl
theorem amount_d (d : Bool) : (talkRd P Gm).amount (dCell k c i) 0 d = N := rfl
theorem expect_bar : (talkRd P Gm).expect (barCell c) 0 = 2 := by
  unfold Schedule.expect Schedule.amountOf
  rw [duties_bar, Finset.sum_congr rfl fun d _ => amount_bar P Gm c d, Finset.sum_const, Finset.card_univ, Fintype.card_bool, smul_eq_mul]
theorem expect_d : (talkRd P Gm).expect (dCell k c i) 0 = N := by
  unfold Schedule.expect Schedule.amountOf; rw [duties_d, Finset.sum_singleton, amount_d]
theorem payload_bar (d : Bool) : (talkRd P Gm).payload (barCell c) 0 d = barPay c d := rfl
theorem payload_d (d : Bool) : (talkRd P Gm).payload (dCell k c i) 0 d = dmaPay P Gm c k.val i := by
  show dmaPay P Gm c (((dsem k i).val - 3) / 8) ⟨((dsem k i).val - 3) % 8, _⟩ = _
  have h := dsem_val k i
  have hi := i.isLt
  have e1 : ((dsem k i).val - 3) / 8 = k.val := by omega
  have e2 : (⟨((dsem k i).val - 3) % 8, Nat.mod_lt _ (by decide)⟩ : Fin 8) = i := Fin.ext (by show ((dsem k i).val - 3) % 8 = i.val; omega)
  rw [e1, e2]
theorem rest_bar : bigSep ((talkRd P Gm).duties (barCell c) 0 \ ∅) (fun d => (talkRd P Gm).payload (barCell c) 0 d)
    = iprop((bigSep Finset.univ fun i : Fin 8 => xOffer (F := F) (xp c) i) ∗ bigSep Finset.univ fun i : Fin 8 => yOffer (yp c) i) := by
  rw [Finset.sdiff_empty, duties_bar, bigSep_univ_eq_bigSepL [true, false] (by decide) (by decide), bigSepL_cons_cons, bigSepL_singleton]
  rfl
theorem rest_d : bigSep ((talkRd P Gm).duties (dCell k c i) 0 \ ∅) (fun d => (talkRd P Gm).payload (dCell k c i) 0 d) = dmaPay P Gm c k.val i := by
  rw [Finset.sdiff_empty, duties_d, bigSep_singleton, payload_d]

end Sched

/-! ## What each device owes; the levels -/

/-- The credit device `c` owes its first-axis partner's receive cells for the chunks in `S`. -/
def owedX (c : Dev nD) (S : Finset (Fin 8)) : CellTallies nD τ sig Unit := ∑ i ∈ S, tallyAt (dCell 1 (xp c) i) () N
/-- The credit device `c` owes its second-axis partner's receive cells for the chunks in `S`. -/
def owedY (c : Dev nD) (S : Finset (Fin 8)) : CellTallies nD τ sig Unit := ∑ i ∈ S, tallyAt (dCell 3 (yp c) i) () N
/-- What device `c` owes at launch. -/
def O₀ (c : Dev nD) : CellTallies nD τ sig Unit :=
  owedY c Finset.univ + owedX c Finset.univ + tallyAt (barCell (yp c)) () 1 + tallyAt (barCell (xp c)) () 1

theorem owedX_erase (c : Dev nD) {S : Finset (Fin 8)} {i : Fin 8} (h : i ∈ S) :
    owedX c S = owedX c (S.erase i) + tallyAt (dCell 1 (xp c) i) () N := (Finset.sum_erase_add S _ h).symm
theorem owedY_erase (c : Dev nD) {S : Finset (Fin 8)} {i : Fin 8} (h : i ∈ S) :
    owedY c S = owedY c (S.erase i) + tallyAt (dCell 3 (yp c) i) () N := (Finset.sum_erase_add S _ h).symm
theorem owedX_empty (c : Dev nD) : owedX c ∅ = 0 := Finset.sum_empty
theorem owedY_empty (c : Dev nD) : owedY c ∅ = 0 := Finset.sum_empty

theorem sum_pos {ι : Type} {S : Finset ι} {f : ι → CellTallies nD τ sig Unit} {g : GSem nD τ sig} {u : Unit}
    (h : 0 < (∑ i ∈ S, f i) g u) : ∃ i ∈ S, 0 < f i g u := by
  classical
  rw [Finset.sum_apply, Finsupp.finset_sum_apply] at h
  by_contra hn
  push Not at hn
  exact absurd (Finset.sum_eq_zero fun i hi => Nat.le_zero.mp (hn i hi)) (Nat.pos_iff_ne_zero.mp h)
theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h
theorem owedX_pos {c : Dev nD} {S : Finset (Fin 8)} {g : GSem nD τ sig} {u : Unit} (h : 0 < owedX c S g u) : ∃ i, g = dCell 1 (xp c) i := by
  obtain ⟨i, _, hi⟩ := sum_pos h; exact ⟨i, tallyAt_pos hi⟩
theorem owedY_pos {c : Dev nD} {S : Finset (Fin 8)} {g : GSem nD τ sig} {u : Unit} (h : 0 < owedY c S g u) : ∃ i, g = dCell 3 (yp c) i := by
  obtain ⟨i, _, hi⟩ := sum_pos h; exact ⟨i, tallyAt_pos hi⟩
theorem add_pos_or {A B : CellTallies nD τ sig Unit} {g : GSem nD τ sig} {u : Unit} (h : 0 < (A + B) g u) : 0 < A g u ∨ 0 < B g u := by
  rw [Pi.add_apply, Finsupp.add_apply] at h; omega

def L (g : GSem nD τ sig) : Finset Unit := if g.1.2 = .tc then {()} else ∅
/-- Barrier cells at 1, receive cells of the first axis at 2, of the second at 3, everything else at 0. -/
def lv (g : GSem nD τ sig) (_ : Unit) : ℕ := match g.2 with
  | .reg s => if s = barS then 1 else 0
  | .dma s => if 27 ≤ s.val then 3 else if 11 ≤ s.val ∧ s.val < 19 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_xr (c : Dev nD) (i : Fin 8) (u : Unit) : lv (dCell 1 c i) u = 2 := by
  show (if 27 ≤ (dsem 1 i).val then 3 else if 11 ≤ (dsem 1 i).val ∧ (dsem 1 i).val < 19 then 2 else 0) = 2
  have hv := dsem_val 1 i
  have hi := i.isLt
  have h1 : ((1 : Fin 4) : ℕ) = 1 := rfl
  rw [if_neg (by omega), if_pos (by omega)]
theorem lv_yr (c : Dev nD) (i : Fin 8) (u : Unit) : lv (dCell 3 c i) u = 3 := by
  show (if 27 ≤ (dsem 3 i).val then 3 else if 11 ≤ (dsem 3 i).val ∧ (dsem 3 i).val < 19 then 2 else 0) = 3
  have hv := dsem_val 3 i
  have h1 : ((3 : Fin 4) : ℕ) = 3 := rfl
  rw [if_pos (by omega)]

/-- A device may wait on a cell below everything it owes. -/
theorem mayWait_below (c : Dev nD) (sm : SemLoc sig) (n : ℕ) (hn : lv ((c : Thread nD τ), sm) () = n) (O : CellTallies nD τ sig Unit)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn.le)
    (fun g u hg => (hO g u hg).2)

theorem owedY_above {c : Dev nD} {S : Finset (Fin 8)} (g : GSem nD τ sig) (u : Unit) (h : 0 < owedY c S g u) : g.1.2 = .tc ∧ 2 < lv g u := by
  obtain ⟨i, rfl⟩ := owedY_pos h; exact ⟨rfl, by rw [lv_yr]; decide⟩
theorem owedXY_above {c : Dev nD} {S S' : Finset (Fin 8)} (g : GSem nD τ sig) (u : Unit) (h : 0 < (owedY c S + owedX c S') g u) : g.1.2 = .tc ∧ 1 < lv g u := by
  rcases add_pos_or h with h | h
  · exact ⟨(owedY_above g u h).1, by have := (owedY_above g u h).2; omega⟩
  · obtain ⟨i, rfl⟩ := owedX_pos h; exact ⟨rfl, by rw [lv_xr]; decide⟩
theorem O₀_above {c : Dev nD} (g : GSem nD τ sig) (u : Unit) (h : 0 < O₀ c g u) : g.1.2 = .tc ∧ 0 < lv g u := by
  unfold O₀ at h
  rcases add_pos_or h with h | h
  · rcases add_pos_or h with h | h
    · exact ⟨(owedXY_above g u h).1, by have := (owedXY_above g u h).2; omega⟩
    · rw [tallyAt_pos h]; exact ⟨rfl, by rw [lv_bar]; decide⟩
  · rw [tallyAt_pos h]; exact ⟨rfl, by rw [lv_bar]; decide⟩

/-! ## The cells' invariants -/

/-- All barrier cells, and all copy cells. -/
def barCells : Finset (GSem nD τ sig) := Finset.univ.map ⟨barCell, fun _ _ => barCell_inj⟩
def dCells : Finset (GSem nD τ sig) := Finset.univ.map ⟨fun x : Dev nD × Fin 4 × Fin 8 => dCell x.2.1 x.1 x.2.2, fun x y h => by
  obtain ⟨h1, h2, h3⟩ := dCell_inj h
  exact Prod.ext h2 (Prod.ext h1 h3)⟩
theorem mem_barCells (c : Dev nD) : barCell c ∈ barCells := Finset.mem_map.mpr ⟨c, Finset.mem_univ _, rfl⟩
theorem mem_dCells (k : Fin 4) (c : Dev nD) (i : Fin 8) : dCell k c i ∈ dCells := Finset.mem_map.mpr ⟨(c, k, i), Finset.mem_univ _, rfl⟩

/-- The record every device keeps: every cell's invariant, at the names `K` gives them, and that every barrier cell is at its first round. -/
def records (K : GSem nD τ sig → ℕ) : sProp 𝕄 :=
  iprop((bigSep barCells fun g => cellInv ER (talkRd P Gm) (K g) g) ∗ (bigSep dCells fun g => cellInv ER (talkRd P Gm) (K g) g)
    ∗ bigSep barCells fun g => reached ER g 0)

instance records_persistent (K : GSem nD τ sig → ℕ) : BI.Persistent (records P Gm K) := by unfold records; infer_instance

theorem inv_bar (K : GSem nD τ sig → ℕ) (c : Dev nD) : records P Gm K ⊢ cellInv ER (talkRd P Gm) (K (barCell c)) (barCell c) := by
  have h : (bigSep barCells fun g => (cellInv ER (talkRd P Gm) (K g) g : sProp 𝕄)) ⊢ cellInv ER (talkRd P Gm) (K (barCell c)) (barCell c) :=
    bigSep_elim (mem_barCells c)
  unfold records
  iintro ⟨H, -, -⟩
  iapply h; iexact H
theorem inv_d (K : GSem nD τ sig → ℕ) (k : Fin 4) (c : Dev nD) (i : Fin 8) : records P Gm K ⊢ cellInv ER (talkRd P Gm) (K (dCell k c i)) (dCell k c i) := by
  have h : (bigSep dCells fun g => (cellInv ER (talkRd P Gm) (K g) g : sProp 𝕄)) ⊢ cellInv ER (talkRd P Gm) (K (dCell k c i)) (dCell k c i) :=
    bigSep_elim (mem_dCells k c i)
  unfold records
  iintro ⟨-, H, -⟩
  iapply h; iexact H
theorem reached_bar (K : GSem nD τ sig → ℕ) (c : Dev nD) : records P Gm K ⊢ (reached ER (barCell c) 0 : sProp 𝕄) := by
  have h : (bigSep barCells fun g => (reached ER g 0 : sProp 𝕄)) ⊢ reached ER (barCell c) 0 := bigSep_elim (mem_barCells c)
  unfold records
  iintro ⟨-, -, H⟩
  iapply h; iexact H

end Cert.KernelIdealTalk

end
-- ==== Proof.KernelIdealSteps.lean ====
/-
One chunk of each of the body's four loops, executed from what a device holds at that chunk.
-/
module

public import proofs.«01_k».proof.Proof.KernelIdealProtocol

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A loop, from its step -/

/-- Separating conjunction over a set with one more element. -/
theorem sep_insert {I : Type} [DecidableEq I] {s : Finset I} {i : I} (hi : i ∉ s) (Φ : I → sProp 𝕄) :
    bigSep (insert i s) Φ = iprop(Φ i ∗ bigSep s Φ) := BI.bigSep_insert hi

/-- The region's kernel, as the launch names it. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A loop whose step at chunk `i` keeps `I` and turns `A i` into `B i` turns every `A i` of its list into `B i`. -/
theorem run_each (c : Dev nD) (f : Fin 8 → Prog (TpuEff nD τ sig (Elt F) Λ₀ .tc) PUnit) (I : Finset (Fin 8) → sProp 𝕄) (A B : Fin 8 → sProp 𝕄)
    (h : ∀ S i, i ∈ S → iprop(I S ∗ A i) ⊢ run c (f i) (fun _ => iprop(I (S.erase i) ∗ B i))) :
    ∀ l : List (Fin 8), l.Nodup →
      iprop(I l.toFinset ∗ bigSep l.toFinset A) ⊢ run c (each f l) (fun _ => iprop(I ∅ ∗ bigSep l.toFinset B)) := by
  intro l
  induction l with
  | nil =>
    intro _
    exact le_wp_ret frame (wpE (defs₀ (F := F)) 𝒱₀ (c : Thread nD τ) none) Set.univ PUnit.unit (fun _ => iprop(I ∅ ∗ bigSep (∅ : Finset (Fin 8)) B))
  | cons i l ih =>
    intro hl
    have hi : i ∉ l.toFinset := fun h' => (List.nodup_cons.mp hl).1 (List.mem_toFinset.mp h')
    have e : (insert i l.toFinset).erase i = l.toFinset := Finset.erase_insert hi
    have hs := h (insert i l.toFinset) i (Finset.mem_insert_self _ _)
    rw [e] at hs
    have ih' := ih (List.nodup_cons.mp hl).2
    rw [List.toFinset_cons, sep_insert hi, sep_insert hi]
    unfold run at hs ih' ⊢
    unfold each
    rw [wp_bind]
    iintro ⟨HI, HA, Hrest⟩
    ihave Hw := hs $$ [HI HA]
    · isplitl [HI] <;> iassumption
    iapply (wp_wand frame (wpE (defs₀ (F := F)) 𝒱₀ (c : Thread nD τ) none) Set.univ) $$ Hw
    iintro %a ⟨HI, HB⟩
    ihave Hw := ih' $$ [HI Hrest]
    · isplitl [HI] <;> iassumption
    iapply (wp_wand frame (wpE (defs₀ (F := F)) 𝒱₀ (c : Thread nD τ) none) Set.univ) $$ Hw
    iintro %b ⟨HI, HBs⟩
    isplitl [HI]; · iexact HI
    isplitl [HB] <;> iassumption

/-- The same over all eight chunks, with the program after it. -/
theorem run_chunks {α : Type} (c : Dev nD) (f : Fin 8 → Prog (TpuEff nD τ sig (Elt F) Λ₀ .tc) PUnit) (I : Finset (Fin 8) → sProp 𝕄) (A B : Fin 8 → sProp 𝕄)
    (h : ∀ S i, i ∈ S → iprop(I S ∗ A i) ⊢ run c (f i) (fun _ => iprop(I (S.erase i) ∗ B i)))
    (k : PUnit → Prog (TpuEff nD τ sig (Elt F) Λ₀ .tc) α) (Q : α → sProp 𝕄) :
    iprop(I Finset.univ ∗ bigSep Finset.univ A) ⊢ iprop((iprop(I ∅ ∗ bigSep Finset.univ B) -∗ run c (k ⟨⟩) Q) -∗ run c (each f chunks >>= k) Q) := by
  have hu : chunks.toFinset = Finset.univ := by decide
  have h' := run_each c f I A B h chunks (by decide)
  rw [hu] at h'
  unfold run at h' ⊢
  rw [wp_bind]
  iintro H Hk
  ihave Hw := h' $$ H
  iapply (wp_wand frame (wpE (defs₀ (F := F)) 𝒱₀ (c : Thread nD τ) none) Set.univ) $$ Hw
  iintro %a H
  cases a
  iapply Hk $$ H

/-! ## Waits and copies -/

variable (P : Dev nD → cc0_stg0_0.ty.Contents (Elt F)) (Gm : Dev nD → cc0_stg1_0.ty.Contents (Elt F)) (K : GSem nD τ sig → ℕ)

/-- The record and the level facts. -/
def ctx : sProp 𝕄 := iprop(records P Gm K ∗ levAts L lv)
instance ctx_persistent : BI.Persistent (ctx P Gm K) := by unfold ctx; infer_instance

theorem ctx_bar (c : Dev nD) : ctx P Gm K ⊢ cellInv ER (talkRd P Gm) (K (barCell c)) (barCell c) := by
  unfold ctx; iintro ⟨H, -⟩; iapply (inv_bar P Gm K c); iexact H
theorem ctx_d (k : Fin 4) (c : Dev nD) (i : Fin 8) : ctx P Gm K ⊢ cellInv ER (talkRd P Gm) (K (dCell k c i)) (dCell k c i) := by
  unfold ctx; iintro ⟨H, -⟩; iapply (inv_d P Gm K k c i); iexact H
theorem ctx_reached (c : Dev nD) : ctx P Gm K ⊢ (reached ER (barCell c) 0 : sProp 𝕄) := by
  unfold ctx; iintro ⟨H, -⟩; iapply (reached_bar P Gm K c); iexact H
theorem ctx_lev : ctx P Gm K ⊢ (levAts L lv : sProp 𝕄) := by
  unfold ctx; iintro ⟨-, H⟩; iexact H

/-- A wait on one of the device's own copy cells takes what its payment handed over. -/
theorem wp_wait_d (c : Dev nD) (k : Fin 4) (i : Fin 8) {sp sp' : Space} {s s' : Shape} {e e' : EltTy} {sm : DmaSem sig} (hs : sm = dsem k i)
    {src : Memref sig .tc sp' s' e'} {dst : Memref sig .tc sp s e} {hsrc : src.view.WordExact} {hdst : dst.view.WordExact}
    (hN : dst.view.dmaCredit = N) (O : CellTallies nD τ sig Unit) (W : Waits sig Unit)
    (hM : (levAts L lv : sProp 𝕄) ⊢ MayWait (c : Thread nD τ) (.dma (dsem k i)) () O)
    {α : Type} {k' : PUnit → Prog (TpuEff nD τ sig (Elt F) Λ₀ .tc) α} {Q : α → sProp 𝕄} :
    iprop(ctx P Gm K ∗ cred (tallyAt (dCell k c i) () N) ∗ owes (c : Thread nD τ) O W ∗ atPos ER (dCell k c i) 0 ∅ 0)
      ⊢ iprop(((∃ W', owes (c : Thread nD τ) O W') ∗ atPos ER (dCell k c i) (0 + 1) ∅ 0 ∗ dmaPay P Gm c k.val i -∗ run c (k' ⟨⟩) Q)
          -∗ run c (.op (.waitDma2 sm src dst hsrc hdst) k') Q) := by
  subst hs
  unfold run
  iintro ⟨#HC, Hc, HO, Ha⟩ Hk
  iapply (Rounds.wp_wait_rest_token 𝒱₀ ER (talkRd P Gm) (c : Thread nD τ) none (κ := K (dCell k c i))
      (wpE_waitDma2_eq 𝒱₀ (c : Thread nD τ) none Set.univ) (Set.mem_univ _) () (O := O) (W := W) (R := 0) (m := 0) (T := ∅)
      ((Nat.zero_add _).trans (hN.trans (expect_d P Gm c k i).symm))) $$ [Hc HO Ha]
  · isplitr; · iapply (ctx_d P Gm K k c i); iexact HC
    isplitl [Hc]; · rw [hN]; iexact Hc
    isplitl [HO]; · iexact HO
    isplitr
    · iapply hM; iapply (ctx_lev P Gm K); iexact HC
    iexact Ha
  iintro ⟨HO, Ha, -, Hp⟩
  iapply Hk
  isplitl [HO]; · iexists _; iexact HO
  isplitl [Ha]; · iexact Ha
  iapply (Entails.of_eq (rest_d P Gm c k i)); iexact Hp

theorem pay0 (c : Dev nD) (i : Fin 8) : dmaPay P Gm c (0 : Fin 4).val i = pPts c i (P c) := rfl
theorem pay1 (c : Dev nD) (i : Fin 8) : dmaPay P Gm c (1 : Fin 4).val i = sPts c i (slotAt P c) := rfl
theorem pay2 (c : Dev nD) (i : Fin 8) : dmaPay P Gm c (2 : Fin 4).val i = oPts c c i (outAt P Gm c) := rfl
theorem pay3 (c : Dev nD) (i : Fin 8) : dmaPay P Gm c (3 : Fin 4).val i = oPts c (yp c) i (outAt P Gm c) := rfl

/-- The copy of chunk `i` along the first axis. -/
theorem wp_send_x (c n : Dev nD) (hn : n = xp c) (i : Fin 8) {S : Finset (Fin 8)} (hi : i ∈ S) {s0 s1 : DmaSem sig} (h0 : s0 = dsem 0 i) (h1 : s1 = dsem 1 i)
    {hsc : (slotM rM i : Memref sig (Dev.tc n : Thread nD τ).2.kind .vmem S64x1024 .f32).view.ref.isScScratch = false}
    {hsrc : (srcM pM c i).view.WordExact} {hdst : (slotM rM i).view.WordExact}
    {hsem : DmaTarget.Typed .vmem (.dma s1) (.remote (Dev.tc n : Thread nD τ) (slotM rM i) (.dma s0) hsc)}
    {α : Type} {Q : α → sProp 𝕄} {k : PUnit → Prog (TpuEff nD τ sig (Elt F) Λ₀ .tc) α}
    (fd : cc0_scratch0.ty.Contents (Elt F)) (W : Waits sig Unit) :
    iprop(ctx P Gm K ∗ pPts c i (P c) ∗ sPts (xp c) i fd ∗ owes (c : Thread nD τ) (owedY c Finset.univ + owedX c S) W
        ∗ dutyTok ER (dCell 0 c i) 0 false ∗ reached ER (dCell 0 c i) 0
        ∗ dutyTok ER (dCell 1 (xp c) i) 0 false ∗ reached ER (dCell 1 (xp c) i) 0)
      ⊢ iprop(((cred (tallyAt (dCell 0 c i) () N) ∗ owes (c : Thread nD τ) (owedY c Finset.univ + owedX c (S.erase i)) W) -∗ run c (k ⟨⟩) Q)
          -∗ run c (.op (.enqueueDma (srcM pM c i) (.remote (Dev.tc n : Thread nD τ) (slotM rM i) (.dma s0) hsc) (.dma s1) hsrc hdst hsem) k) Q) := by
  subst hn; subst h0; subst h1
  unfold run pPts sPts
  have h := Rounds.wp_send_pointsTo (defs := defs₀ (F := F)) (Γ := .empty) (Es := Set.univ) 𝒱₀ ER (talkRd P Gm) (c : Thread nD τ) none (c' := (Dev.tc (xp c) : Thread nD τ)) (src := srcM pM c i) (dst := slotM rM i)
    (hsc := hsc) (sS := .dma (dsem 0 i)) (sem := .dma (dsem 1 i)) (hsrc := hsrc) (hdst := hdst) (hsem := hsem) (k := k) (Q := Q) (q := fullShare)
    (κ₁ := K (dCell 0 c i)) (κ₂ := K (dCell 1 (xp c) i)) (r₁ := 0) (r₂ := 0) (d₁ := false) (d₂ := false) (fs := P c) (fd := fd)
    (by rw [duties_d]; exact Finset.mem_singleton_self _) (by rw [duties_d]; exact Finset.mem_singleton_self _)
    () () N rfl (amount_d P Gm c 0 i false) (amount_d P Gm (xp c) 1 i false) (owedY c Finset.univ + owedX c (S.erase i))
    (O₀ := owedY c Finset.univ + owedX c S) (by rw [owedX_erase c hi, add_assoc]) (W := W)
    (by rw [payload_d]; exact BI.Entails.refl _)
    (by
      rw [payload_d]; show _ ⊢ sPts (xp c) i (slotAt P (xp c)); unfold sPts; exact Entails.of_eq (pointsTo_congr (land_slot P c i fd)))
  iintro ⟨#HC, H⟩
  iapply h
  isplitr; · iapply (ctx_d P Gm K 0 c i); iexact HC
  isplitr; · iapply (ctx_d P Gm K 1 (xp c) i); iexact HC
  iexact H

/-- The copy of chunk `i` along the second axis. -/
theorem wp_send_y (c n : Dev nD) (hn : n = yp c) (i : Fin 8) {S : Finset (Fin 8)} (hi : i ∈ S) {s0 s1 : DmaSem sig} (h0 : s0 = dsem 2 i) (h1 : s1 = dsem 3 i)
    {hsc : (outM oM c i : Memref sig (Dev.tc n : Thread nD τ).2.kind .vmem S64x1024 .f32).view.ref.isScScratch = false}
    {hsrc : (outM oM c i).view.WordExact} {hdst : (outM oM c i).view.WordExact}
    {hsem : DmaTarget.Typed .vmem (.dma s1) (.remote (Dev.tc n : Thread nD τ) (outM oM c i) (.dma s0) hsc)}
    {α : Type} {Q : α → sProp 𝕄} {k : PUnit → Prog (TpuEff nD τ sig (Elt F) Λ₀ .tc) α}
    (fd : cc0_stg2_0.ty.Contents (Elt F)) (W : Waits sig Unit) :
    iprop(ctx P Gm K ∗ oPts c c i (outAt P Gm c) ∗ oPts (yp c) (yp (yp c)) i fd ∗ owes (c : Thread nD τ) (owedY c S) W
        ∗ dutyTok ER (dCell 2 c i) 0 false ∗ reached ER (dCell 2 c i) 0
        ∗ dutyTok ER (dCell 3 (yp c) i) 0 false ∗ reached ER (dCell 3 (yp c) i) 0)
      ⊢ iprop(((cred (tallyAt (dCell 2 c i) () N) ∗ owes (c : Thread nD τ) (owedY c (S.erase i)) W) -∗ run c (k ⟨⟩) Q)
          -∗ run c (.op (.enqueueDma (outM oM c i) (.remote (Dev.tc n : Thread nD τ) (outM oM c i) (.dma s0) hsc) (.dma s1) hsrc hdst hsem) k) Q) := by
  subst hn; subst h0; subst h1
  rw [yp_yp]
  unfold run oPts
  have h := Rounds.wp_send_pointsTo (defs := defs₀ (F := F)) (Γ := .empty) (Es := Set.univ) 𝒱₀ ER (talkRd P Gm) (c : Thread nD τ) none (c' := (Dev.tc (yp c) : Thread nD τ)) (src := outM oM c i) (dst := outM oM c i)
    (hsc := hsc) (sS := .dma (dsem 2 i)) (sem := .dma (dsem 3 i)) (hsrc := hsrc) (hdst := hdst) (hsem := hsem) (k := k) (Q := Q) (q := fullShare)
    (κ₁ := K (dCell 2 c i)) (κ₂ := K (dCell 3 (yp c) i)) (r₁ := 0) (r₂ := 0) (d₁ := false) (d₂ := false) (fs := outAt P Gm c) (fd := fd)
    (by rw [duties_d]; exact Finset.mem_singleton_self _) (by rw [duties_d]; exact Finset.mem_singleton_self _)
    () () N rfl (amount_d P Gm c 2 i false) (amount_d P Gm (yp c) 3 i false) (owedY c (S.erase i))
    (owedY_erase c hi) (W := W)
    (by rw [payload_d]; exact BI.Entails.refl _)
    (by
      rw [payload_d]; show _ ⊢ oPts (yp c) (yp (yp c)) i (outAt P Gm (yp c)); rw [yp_yp, outAt_yp]; unfold oPts
      exact Entails.of_eq (pointsTo_congr fun j hj => write_read_on (outM oM c i).view fd (outAt P Gm c) hj))
  iintro ⟨#HC, H⟩
  iapply h
  isplitr; · iapply (ctx_d P Gm K 2 c i); iexact HC
  isplitr; · iapply (ctx_d P Gm K 3 (yp c) i); iexact HC
  iexact H
/-! ## The loads and the store of a chunk -/

/-- What is left of the partial sums when the rows sent are taken away. -/
abbrev pRest (c : Dev nD) : Finset S2048x1024.Idx := Finset.univ \ Finset.univ.biUnion (pSet c)

def restPts (c : Dev nD) : sProp 𝕄 := pM.view.loc (c : Thread nD τ) ↦[pRest c]{fullShare} P c
def gPts (c : Dev nD) : sProp 𝕄 := gM.view.loc (c : Thread nD τ) ↦{fullShare} Gm c

theorem own_rows (c : Dev nD) (i : Fin 8) :
    pM.view.setOn (Rect.unit (s := S2048x1024) (k0_off2 c (cw i)) S64x1024.size (k0_off2_inb c i)).toLoadRect.set ⊆ pRest c := by
  have e : pM.view.setOn (Rect.unit (s := S2048x1024) (k0_off2 c (cw i)) S64x1024.size (k0_off2_inb c i)).toLoadRect.set
      = (pM.view.slice (Rect.unit (s := S2048x1024) (k0_off2 c (cw i)) S64x1024.size (k0_off2_inb c i))).set := (View.set_slice _ _).symm
  rw [e]
  intro j hj
  obtain ⟨k, -, rfl⟩ := Finset.mem_map.mp hj
  refine Finset.mem_sdiff.mpr ⟨Finset.mem_univ _, fun hb => ?_⟩
  obtain ⟨i', -, h'⟩ := Finset.mem_biUnion.mp hb
  have a := mem_pSet h'
  have h := ValueKit.view_emb_slice_whole_unit_val cc0_stg0_0 (k0_off2 c (cw i)) S64x1024.size (k0_off2_inb c i) k (0 : Fin 2)
  have e0 : k0_off2 c (cw i) 0 = 1024 * (c.val / 2) + 512 * (c.val % 2) + 64 * i.val := congrFun (k0_off2_eq c i) 0
  have hk : (k 0 : ℕ) < 64 := (k 0).isLt
  have hr := dev_row_lt c; have hc := dev_col_lt c; have hi := i.isLt; have hi' := i'.isLt
  have h2 : (((pM.view.slice (Rect.unit (s := S2048x1024) (k0_off2 c (cw i)) S64x1024.size (k0_off2_inb c i))).emb k : S2048x1024.Idx) 0 : ℕ)
      = 1024 * (c.val / 2) + 512 * (c.val % 2) + 64 * i.val + (k 0 : ℕ) := h.trans (congrArg (· + (k 0 : ℕ)) e0)
  unfold orow at a
  omega

theorem slot_rows (i : Fin 8) :
    rM.view.setOn (Rect.unit (s := S8x64x1024) ![i.val, 0, 0] S1x64x1024.size (inb_slot i)).toLoadRect.set ⊆ (slotM rM i).view.set := by
  have e : rM.view.setOn (Rect.unit (s := S8x64x1024) ![i.val, 0, 0] S1x64x1024.size (inb_slot i)).toLoadRect.set
      = (rM.view.slice (Rect.unit (s := S8x64x1024) ![i.val, 0, 0] S1x64x1024.size (inb_slot i))).set := (View.set_slice _ _).symm
  rw [e]
  intro j hj
  obtain ⟨k, -, rfl⟩ := Finset.mem_map.mp hj
  refine mem_sSet.mpr (Fin.ext ?_)
  have h := ValueKit.view_emb_slice_whole_unit_val cc0_scratch0 ![i.val, 0, 0] S1x64x1024.size (inb_slot i) k (0 : Fin 3)
  have hk : (k 0 : ℕ) < 1 := (k 0).isLt
  refine h.trans ?_
  show i.val + (k 0 : ℕ) = i.val
  omega

/-- A load of the rows a chunk makes leaves them as they were. -/
theorem wp_load_out {α : Type} {Q : α → sProp 𝕄} (c : Dev nD) (i : Fin 8) {off : Fin S1024x1024.rank → ℕ} (e : off = k0_off4 c (cw i)) {h : ∀ a, off a + S64x1024.size a ≤ S1024x1024.size a}
    {hl : oM.view.LoadsAt (Rect.unit (s := S1024x1024) off S64x1024.size h).toLoadRect}
    {k : Vec F S64x1024 .f32 → Prog (TpuEff nD τ sig (Elt F) Λ₀ .tc) α} (f : cc0_stg2_0.ty.Contents (Elt F)) :
    oPts c c i f ⊢ iprop((∀ v : Vec F S64x1024 .f32, oPts c c i f -∗ run c (k v) Q)
      -∗ run c (.op (.load oM (Rect.unit (s := S1024x1024) off S64x1024.size h).toLoadRect hl) k) Q) := by
  subst e
  unfold run oPts
  iintro H Hk
  iapply (wp_load_rect 𝒱₀ (c : Thread nD τ) none Set.univ (m := oM) (r := Rect.unit (s := S1024x1024) (k0_off4 c (cw i)) S64x1024.size h)
    (S := (outM oM c i).view.set) (f := f) (Finset.Subset.refl _)) $$ [H]
  · iexact H
  iintro H
  iapply Hk
  iexact H

/-- A chunk's store, over the rows it makes. -/
theorem wp_store_out {α : Type} {Q : α → sProp 𝕄} (c : Dev nD) (i : Fin 8) {off : Fin S1024x1024.rank → ℕ} (e : off = k0_off4 c (cw i)) {h : ∀ a, off a + S64x1024.size a ≤ S1024x1024.size a}
    {w : Vec F S64x1024 .f32} {hx : (oM.access (Rect.unit (s := S1024x1024) off S64x1024.size h)).Stores Finset.univ}
    {hm : (Finset.univ : Finset (Rect.unit (s := S1024x1024) off S64x1024.size h).shape.Idx) = Finset.univ ∨ ∀ a, (Rect.unit (s := S1024x1024) off S64x1024.size h).stride a = 1}
    {k : PUnit → Prog (TpuEff nD τ sig (Elt F) Λ₀ .tc) α} (f : cc0_stg2_0.ty.Contents (Elt F)) :
    oPts c c i f ⊢ iprop((oPts c c i ((outM oM c i).view.write (Elt F) f w Finset.univ) -∗ run c (k PUnit.unit) Q)
      -∗ run c (.op (.store oM (Rect.unit (s := S1024x1024) off S64x1024.size h) w Finset.univ hx hm) k) Q) := by
  subst e
  unfold run oPts
  exact wp_store 𝒱₀ (c : Thread nD τ) none Set.univ (m := oM) (r := Rect.unit (s := S1024x1024) (k0_off4 c (cw i)) S64x1024.size h)
    (Mk := Finset.univ) (S := (outM oM c i).view.set) (f := f) (Finset.Subset.refl _)

/-! ## The four loops -/

/-- What device `c` holds through the first loop, with the chunks of `S` to be sent. -/
def I1 (c : Dev nD) (S : Finset (Fin 8)) : sProp 𝕄 :=
  iprop(ctx P Gm K ∗ ∃ W, owes (c : Thread nD τ) (owedY c Finset.univ + owedX c S) W)
def A1 (c : Dev nD) (i : Fin 8) : sProp 𝕄 :=
  iprop(pPts c i (P c) ∗ xOffer (xp c) i ∗ dutyTok ER (dCell 0 c i) 0 false ∗ reached ER (dCell 0 c i) 0 ∗ dutyTok ER (dCell 1 (xp c) i) 0 false)
def B1 (c : Dev nD) (i : Fin 8) : sProp 𝕄 := cred (tallyAt (dCell 0 c i) () N)

/-- The first loop sends a chunk's rows along the first axis. -/
theorem step1 (c : Dev nD) (S : Finset (Fin 8)) (i : Fin 8) (hi : i ∈ S) :
    iprop(I1 P Gm K c S ∗ A1 P c i) ⊢ run c (xsend (F := F) pM rM cc0_scratch1 cc0_scratch2 c i) (fun _ => iprop(I1 P Gm K c (S.erase i) ∗ B1 c i)) := by
  unfold I1 A1 B1 xOffer xsend
  iintro ⟨⟨#HC, ⟨%W, HO⟩⟩, Hp, ⟨⟨%fd, Hs⟩, Hr1⟩, Ht0, Hr0, Ht1⟩
  simp only [Prog.lift]
  iapply (wp_send_x P Gm K c (xdev c i) (xdev_eq c i) i hi rfl rfl fd W) $$ [Hp Hs HO Ht0 Hr0 Ht1 Hr1]
  · isplitr; · iexact HC
    isplitl [Hp]; · iexact Hp
    isplitl [Hs]; · iexact Hs
    isplitl [HO]; · iexact HO
    isplitl [Ht0]; · iexact Ht0
    isplitl [Hr0]; · iexact Hr0
    isplitl [Ht1]; · iexact Ht1
    iexact Hr1
  iintro ⟨Hc, HO⟩
  unfold run
  rw [wp_ret]
  imodintro
  isplitr [Hc]
  · isplitr; · iexact HC
    iexists _; iexact HO
  iexact Hc

/-- What device `c` holds through the second loop, with the chunks of `S` to be made. -/
def I2 (c : Dev nD) (S : Finset (Fin 8)) : sProp 𝕄 :=
  iprop(ctx P Gm K ∗ restPts P c ∗ gPts Gm c ∗ ∃ W, owes (c : Thread nD τ) (owedY c S) W)
def A2 (c : Dev nD) (i : Fin 8) : sProp 𝕄 :=
  iprop(cred (tallyAt (dCell 1 c i) () N) ∗ atPos ER (dCell 1 c i) 0 ∅ 0 ∗ (∃ f, oPts c c i f) ∗ yOffer (yp c) i
    ∗ dutyTok ER (dCell 2 c i) 0 false ∗ reached ER (dCell 2 c i) 0 ∗ dutyTok ER (dCell 3 (yp c) i) 0 false)
def B2 (c : Dev nD) (i : Fin 8) : sProp 𝕄 :=
  iprop(sPts c i (slotAt P c) ∗ atPos ER (dCell 1 c i) (0 + 1) ∅ 0 ∗ cred (tallyAt (dCell 2 c i) () N))

/-- The second loop takes a chunk's rows, makes the chunk and sends it along the second axis. -/
theorem step2 (c : Dev nD) (S : Finset (Fin 8)) (i : Fin 8) (hi : i ∈ S) :
    iprop(I2 P Gm K c S ∗ A2 c i)
      ⊢ run c (chunk (F := F) pM gM oM rM cc0_scratch2 cc0_scratch3 cc0_scratch4 c i) (fun _ => iprop(I2 P Gm K c (S.erase i) ∗ B2 P c i)) := by
  unfold I2 A2 B2 yOffer chunk
  simp only [Prog.lift, Prog.bind_op, Prog.bind_ret, Prog.pure_eq_ret]
  iintro ⟨⟨#HC, Hrest, Hg, ⟨%W, HO⟩⟩, Hc1, Ha1, ⟨%fo, Ho⟩, ⟨⟨%fd, Hy⟩, Hr3⟩, Ht2, Hr2, Ht3⟩
  iapply (wp_wait_d P Gm K c 1 i rfl (N_slot i) (owedY c S) W
    (mayWait_below c (.dma (dsem 1 i)) 2 (lv_xr c i ()) _ owedY_above)) $$ [Hc1 Ha1 HO]
  · isplitr; · iexact HC
    isplitl [Hc1]; · iexact Hc1
    isplitl [HO]; · iexact HO
    iexact Ha1
  iintro ⟨⟨%W', HO⟩, Ha1, Hs⟩
  ihave Hs : sPts c i (slotAt P c) $$ [Hs]
  · iapply (Entails.of_eq (pay1 P Gm c i)); iexact Hs
  unfold restPts gPts
  unfold run
  iapply (wp_load 𝒱₀ (c : Thread nD τ) none Set.univ (m := pM) (own_rows c i)) $$ [Hrest]
  · iexact Hrest
  iintro Hrest
  unfold sPts
  iapply (wp_load 𝒱₀ (c : Thread nD τ) none Set.univ (m := rM) (slot_rows i)) $$ [Hs]
  · iexact Hs
  iintro Hs
  iapply (wp_load 𝒱₀ (c : Thread nD τ) none Set.univ (m := gM) (Finset.subset_univ _)) $$ [Hg]
  · iexact Hg
  iintro Hg
  iapply (wp_load_out c i (off3_eq_off4 c i) fo) $$ [Ho]
  · iexact Ho
  iintro %v Ho
  iapply (wp_store_out c i (off3_eq_off4 c i) fo) $$ [Ho]
  · iexact Ho
  iintro Ho
  ihave Ho : oPts c c i (outAt P Gm c) $$ [Ho]
  · iapply (Entails.of_eq (show oPts c c i ((outM oM c i).view.write (Elt F) fo (chunkVal P Gm c i) Finset.univ) = oPts c c i (outAt P Gm c) from
      pointsTo_congr (store_out P Gm c i fo))); iexact Ho
  iapply (wp_send_y P Gm K c (ydev c i) (ydev_eq c i) i hi rfl rfl fd W') $$ [Ho Hy HO Ht2 Hr2 Ht3 Hr3]
  · isplitr; · iexact HC
    isplitl [Ho]; · iexact Ho
    isplitl [Hy]; · iexact Hy
    isplitl [HO]; · iexact HO
    isplitl [Ht2]; · iexact Ht2
    isplitl [Hr2]; · iexact Hr2
    isplitl [Ht3]; · iexact Ht3
    iexact Hr3
  iintro ⟨Hc, HO⟩
  unfold run
  rw [wp_ret]
  imodintro
  isplitr [Hc Hs Ha1]
  · isplitr; · iexact HC
    isplitl [Hrest]; · iexact Hrest
    isplitl [Hg]; · iexact Hg
    iexists _; iexact HO
  isplitl [Hs]; · iexact Hs
  isplitl [Ha1]; · iexact Ha1
  iexact Hc

/-- What device `c` holds through the last two loops. -/
def I3 (c : Dev nD) (_S : Finset (Fin 8)) : sProp 𝕄 := iprop(ctx P Gm K ∗ ∃ W, owes (c : Thread nD τ) 0 W)
def A3 (c : Dev nD) (i : Fin 8) : sProp 𝕄 := iprop(cred (tallyAt (dCell 3 c i) () N) ∗ atPos ER (dCell 3 c i) 0 ∅ 0)
def B3 (c : Dev nD) (i : Fin 8) : sProp 𝕄 := iprop(oPts c (yp c) i (outAt P Gm c) ∗ atPos ER (dCell 3 c i) (0 + 1) ∅ 0)

theorem mayWait_none (c : Dev nD) (sm : SemLoc sig) : (levAts L lv : sProp 𝕄) ⊢ MayWait (c : Thread nD τ) sm () 0 := by
  rw [MayWait_zero]; iintro -; iempintro

/-- The third loop takes the rows the second-axis partner makes. -/
theorem step3 (c : Dev nD) (S : Finset (Fin 8)) (i : Fin 8) (hi : i ∈ S) :
    iprop(I3 P Gm K c S ∗ A3 c i) ⊢ run c (ywait (F := F) oM cc0_scratch4 c i) (fun _ => iprop(I3 P Gm K c (S.erase i) ∗ B3 P Gm c i)) := by
  unfold I3 A3 B3 ywait
  simp only [Prog.lift]
  iintro ⟨⟨#HC, ⟨%W, HO⟩⟩, Hc, Ha⟩
  iapply (wp_wait_d P Gm K c 3 i rfl (N_out c i) 0 W (mayWait_none c _)) $$ [Hc Ha HO]
  · isplitr; · iexact HC
    isplitl [Hc]; · iexact Hc
    isplitl [HO]; · iexact HO
    iexact Ha
  iintro ⟨HO, Ha, Ho⟩
  unfold run
  rw [wp_ret]
  imodintro
  isplitl [HO]
  · isplitr; · iexact HC
    iexact HO
  isplitl [Ho]; · iapply (Entails.of_eq (pay3 P Gm c i)); iexact Ho
  iexact Ha

def A4 (c : Dev nD) (i : Fin 8) : sProp 𝕄 :=
  iprop(cred (tallyAt (dCell 0 c i) () N) ∗ atPos ER (dCell 0 c i) 0 ∅ 0 ∗ cred (tallyAt (dCell 2 c i) () N) ∗ atPos ER (dCell 2 c i) 0 ∅ 0)
def B4 (c : Dev nD) (i : Fin 8) : sProp 𝕄 :=
  iprop(pPts c i (P c) ∗ atPos ER (dCell 0 c i) (0 + 1) ∅ 0 ∗ oPts c c i (outAt P Gm c) ∗ atPos ER (dCell 2 c i) (0 + 1) ∅ 0)

/-- The last loop takes back the rows a chunk's two copies have read. -/
theorem step4 (c : Dev nD) (S : Finset (Fin 8)) (i : Fin 8) (hi : i ∈ S) :
    iprop(I3 P Gm K c S ∗ A4 c i)
      ⊢ run c (swait (F := F) pM oM rM cc0_scratch1 cc0_scratch3 c i) (fun _ => iprop(I3 P Gm K c (S.erase i) ∗ B4 P Gm c i)) := by
  unfold I3 A4 B4 swait
  simp only [Prog.lift, Prog.bind_op, Prog.bind_ret, Prog.pure_eq_ret]
  iintro ⟨⟨#HC, ⟨%W, HO⟩⟩, Hc0, Ha0, Hc2, Ha2⟩
  iapply (wp_wait_d P Gm K c 0 i rfl (N_src c i) 0 W (mayWait_none c _)) $$ [Hc0 Ha0 HO]
  · isplitr; · iexact HC
    isplitl [Hc0]; · iexact Hc0
    isplitl [HO]; · iexact HO
    iexact Ha0
  iintro ⟨⟨%W', HO⟩, Ha0, Hp⟩
  iapply (wp_wait_d P Gm K c 2 i rfl (N_out c i) 0 W' (mayWait_none c _)) $$ [Hc2 Ha2 HO]
  · isplitr; · iexact HC
    isplitl [Hc2]; · iexact Hc2
    isplitl [HO]; · iexact HO
    iexact Ha2
  iintro ⟨HO, Ha2, Ho⟩
  unfold run
  rw [wp_ret]
  imodintro
  isplitl [HO]
  · isplitr; · iexact HC
    iexact HO
  isplitl [Hp]; · iapply (Entails.of_eq (pay0 P Gm c i)); iexact Hp
  isplitl [Ha0]; · iexact Ha0
  isplitl [Ho]; · iapply (Entails.of_eq (pay2 P Gm c i)); iexact Ho
  iexact Ha2

end Cert.KernelIdealTalk

end
-- ==== Proof.KernelIdealBody.lean ====
/-
The whole body, executed from what a device holds when the region's cells are open: the handshake, the four loops, and
the buffers put together again.
-/
module

public import proofs.«01_k».proof.Proof.KernelIdealSteps

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → cc0_stg0_0.ty.Contents (Elt F)) (Gm : Dev nD → cc0_stg1_0.ty.Contents (Elt F)) (K : GSem nD τ sig → ℕ)

/-! ## Whole buffers and their parts -/

def pWhole (c : Dev nD) (f : cc0_stg0_0.ty.Contents (Elt F)) : sProp 𝕄 := pM.view.loc (c : Thread nD τ) ↦{fullShare} f
def oWhole (c : Dev nD) (f : cc0_stg2_0.ty.Contents (Elt F)) : sProp 𝕄 := oM.view.loc (c : Thread nD τ) ↦{fullShare} f
def sWhole (c : Dev nD) (f : cc0_scratch0.ty.Contents (Elt F)) : sProp 𝕄 := rM.view.loc (c : Thread nD τ) ↦{fullShare} f

/-- The partial sums are the eight chunks sent and the rest. -/
theorem pWhole_parts (c : Dev nD) :
    pWhole c (P c) ⊣⊢ iprop((bigSep Finset.univ fun i : Fin 8 => pPts c i (P c)) ∗ restPts P c) := by
  have h := pointsTo_split_subset (ℓ := pM.view.loc (c : Thread nD τ)) (q := fullShare) (f := P c) (Val := Elt F) (Ix := Unit) (U := UU) (Lvl := ℕ) (Name := ℕ)
    (Finset.subset_univ (Finset.univ.biUnion (pSet c)))
  have h2 := pointsTo_biUnion (ℓ := pM.view.loc (c : Thread nD τ)) (q := fullShare) (f := P c) (Val := Elt F) (Ix := Unit) (U := UU) (Lvl := ℕ) (Name := ℕ)
    Finset.univ (pSet c) (fun i _ i' _ hne => pSet_disj c hne)
  exact ⟨h.1.trans (sep_mono_left (Entails.of_eq h2)), (sep_mono_left (Entails.of_eq h2.symm)).trans h.2⟩

/-- The receive scratch is its eight slots. -/
theorem sWhole_parts (c : Dev nD) (f : cc0_scratch0.ty.Contents (Elt F)) :
    sWhole c f = bigSep Finset.univ fun i : Fin 8 => sPts c i f := by
  have h := pointsTo_biUnion (ℓ := rM.view.loc (c : Thread nD τ)) (q := fullShare) (f := f) (Val := Elt F) (Ix := Unit) (U := UU) (Lvl := ℕ) (Name := ℕ)
    Finset.univ sSet (fun i _ i' _ hne => sSet_disj hne)
  exact (congrArg (fun S => (pointsTo (Ix := Unit) (U := UU) (Lvl := ℕ) (Name := ℕ) (rM.view.loc (c : Thread nD τ)) S fullShare f : sProp 𝕄)) sSet_cover.symm).trans h

/-- The result is the eight chunks the device makes and the eight its second-axis partner makes. -/
theorem oWhole_parts (c : Dev nD) (f : cc0_stg2_0.ty.Contents (Elt F)) :
    oWhole c f = iprop((bigSep Finset.univ fun i : Fin 8 => oPts c c i f) ∗ bigSep Finset.univ fun i : Fin 8 => oPts c (yp c) i f) := by
  have h := pointsTo_biUnion (ℓ := oM.view.loc (c : Thread nD τ)) (q := fullShare) (f := f) (Val := Elt F) (Ix := Unit) (U := UU) (Lvl := ℕ) (Name := ℕ)
    Finset.univ (oBoth c) (fun x _ x' _ hne => oBoth_disj c hne)
  rw [bigSep_univ_prod, bigSep_univ_eq_bigSepL [true, false] (by decide) (by decide), bigSepL_cons_cons, bigSepL_singleton] at h
  exact (congrArg (fun S => (pointsTo (Ix := Unit) (U := UU) (Lvl := ℕ) (Name := ℕ) (oM.view.loc (c : Thread nD τ)) S fullShare f : sProp 𝕄)) (oBoth_cover c).symm).trans h

/-! ## What a device holds at the region's start and end -/

/-- The positions of a chunk's four cells, all at round `r`. -/
def posAt (c : Dev nD) (r : ℕ) (i : Fin 8) : sProp 𝕄 :=
  iprop(atPos ER (dCell 0 c i) r ∅ 0 ∗ atPos ER (dCell 1 c i) r ∅ 0 ∗ atPos ER (dCell 2 c i) r ∅ 0 ∗ atPos ER (dCell 3 c i) r ∅ 0)
/-- A chunk's four cells are at their first round. -/
def starts (c : Dev nD) (i : Fin 8) : sProp 𝕄 :=
  iprop(reached ER (dCell 0 c i) 0 ∗ reached ER (dCell 1 c i) 0 ∗ reached ER (dCell 2 c i) 0 ∗ reached ER (dCell 3 c i) 0)
/-- The tokens of the payments a chunk's two copies make. -/
def payToks (c : Dev nD) (i : Fin 8) : sProp 𝕄 :=
  iprop(dutyTok ER (dCell 0 c i) 0 false ∗ dutyTok ER (dCell 1 (xp c) i) 0 false ∗ dutyTok ER (dCell 2 c i) 0 false ∗ dutyTok ER (dCell 3 (yp c) i) 0 false)
/-- The credit of the two copies that arrive for a chunk. -/
def credIn (c : Dev nD) (i : Fin 8) : sProp 𝕄 :=
  iprop(cred (tallyAt (dCell 1 c i) () N) ∗ cred (tallyAt (dCell 3 c i) () N))

/-- The protocol's state of device `c` when the region begins. -/
def before (c : Dev nD) : sProp 𝕄 :=
  iprop(ctx P Gm K ∗ cred (tallyAt (barCell c) () 2) ∗ atPos ER (barCell c) 0 ∅ 0
    ∗ dutyTok ER (barCell (xp c)) 0 true ∗ dutyTok ER (barCell (yp c)) 0 false
    ∗ (bigSep Finset.univ fun i : Fin 8 => posAt c 0 i) ∗ (bigSep Finset.univ fun i : Fin 8 => starts c i)
    ∗ (bigSep Finset.univ fun i : Fin 8 => payToks c i) ∗ (bigSep Finset.univ fun i : Fin 8 => credIn c i))

/-- The protocol's state of device `c` when the region ends: every cell one round further. -/
def after (c : Dev nD) : sProp 𝕄 :=
  iprop(ctx P Gm K ∗ atPos ER (barCell c) (0 + 1) ∅ 0 ∗ bigSep Finset.univ fun i : Fin 8 => posAt c (0 + 1) i)

/-- What the first-axis partner is offered: every slot, free, and its receive cell's first round. -/
theorem offer_x (c : Dev nD) (f : cc0_scratch0.ty.Contents (Elt F)) :
    iprop(sWhole c f ∗ bigSep Finset.univ fun i : Fin 8 => (reached ER (dCell 1 c i) 0 : sProp 𝕄)) ⊢ bigSep Finset.univ fun i : Fin 8 => xOffer c i := by
  rw [sWhole_parts, ← bigSep_sep']
  refine bigSep_mono fun i _ => ?_
  unfold xOffer
  show (_ : sProp 𝕄) ⊢ _
  iintro ⟨H, Hr⟩
  isplitl [H]; · iexists f; iexact H
  iexact Hr
theorem offer_y (c : Dev nD) (f : cc0_stg2_0.ty.Contents (Elt F)) :
    iprop((bigSep Finset.univ fun i : Fin 8 => oPts c (yp c) i f) ∗ bigSep Finset.univ fun i : Fin 8 => (reached ER (dCell 3 c i) 0 : sProp 𝕄))
      ⊢ bigSep Finset.univ fun i : Fin 8 => yOffer c i := by
  rw [← bigSep_sep']
  refine bigSep_mono fun i _ => ?_
  unfold yOffer
  show (_ : sProp 𝕄) ⊢ _
  iintro ⟨H, Hr⟩
  isplitl [H]; · iexists f; iexact H
  iexact Hr

theorem own_free (c : Dev nD) (f : cc0_stg2_0.ty.Contents (Elt F)) :
    (bigSep Finset.univ fun i : Fin 8 => oPts c c i f) ⊢ bigSep Finset.univ fun i : Fin 8 => (iprop(∃ f, oPts c c i f) : sProp 𝕄) :=
  bigSep_mono fun i _ => by show (_ : sProp 𝕄) ⊢ _; iintro H; iexists f; iexact H

/-! ## The loops' resources, family by family -/

theorem A1_all (c : Dev nD) : (bigSep Finset.univ fun i => A1 P c i)
    = iprop((bigSep Finset.univ fun i => pPts c i (P c)) ∗ (bigSep Finset.univ fun i => xOffer (xp c) i)
      ∗ (bigSep Finset.univ fun i => dutyTok ER (dCell 0 c i) 0 false) ∗ (bigSep Finset.univ fun i => reached ER (dCell 0 c i) 0)
      ∗ bigSep Finset.univ fun i => dutyTok ER (dCell 1 (xp c) i) 0 false) := by
  unfold A1; simp only [bigSep_sep']
theorem A2_all (c : Dev nD) : (bigSep Finset.univ fun i => (A2 c i : sProp 𝕄))
    = iprop((bigSep Finset.univ fun i => cred (tallyAt (dCell 1 c i) () N)) ∗ (bigSep Finset.univ fun i => atPos ER (dCell 1 c i) 0 ∅ 0)
      ∗ (bigSep Finset.univ fun i => iprop(∃ f, oPts c c i f)) ∗ (bigSep Finset.univ fun i => yOffer (yp c) i)
      ∗ (bigSep Finset.univ fun i => dutyTok ER (dCell 2 c i) 0 false) ∗ (bigSep Finset.univ fun i => reached ER (dCell 2 c i) 0)
      ∗ bigSep Finset.univ fun i => dutyTok ER (dCell 3 (yp c) i) 0 false) := by
  unfold A2; simp only [bigSep_sep']
theorem B2_all (c : Dev nD) : (bigSep Finset.univ fun i => B2 P c i)
    = iprop((bigSep Finset.univ fun i => sPts c i (slotAt P c)) ∗ (bigSep Finset.univ fun i => atPos ER (dCell 1 c i) (0 + 1) ∅ 0)
      ∗ bigSep Finset.univ fun i => cred (tallyAt (dCell 2 c i) () N)) := by
  unfold B2; simp only [bigSep_sep']
theorem A3_all (c : Dev nD) : (bigSep Finset.univ fun i => (A3 c i : sProp 𝕄))
    = iprop((bigSep Finset.univ fun i => cred (tallyAt (dCell 3 c i) () N)) ∗ bigSep Finset.univ fun i => atPos ER (dCell 3 c i) 0 ∅ 0) := by
  unfold A3; simp only [bigSep_sep']
theorem B3_all (c : Dev nD) : (bigSep Finset.univ fun i => B3 P Gm c i)
    = iprop((bigSep Finset.univ fun i => oPts c (yp c) i (outAt P Gm c)) ∗ bigSep Finset.univ fun i => atPos ER (dCell 3 c i) (0 + 1) ∅ 0) := by
  unfold B3; simp only [bigSep_sep']
theorem A4_all (c : Dev nD) : (bigSep Finset.univ fun i => (A4 c i : sProp 𝕄))
    = iprop((bigSep Finset.univ fun i => cred (tallyAt (dCell 0 c i) () N)) ∗ (bigSep Finset.univ fun i => atPos ER (dCell 0 c i) 0 ∅ 0)
      ∗ (bigSep Finset.univ fun i => cred (tallyAt (dCell 2 c i) () N)) ∗ bigSep Finset.univ fun i => atPos ER (dCell 2 c i) 0 ∅ 0) := by
  unfold A4; simp only [bigSep_sep']
theorem B4_all (c : Dev nD) : (bigSep Finset.univ fun i => B4 P Gm c i)
    = iprop((bigSep Finset.univ fun i => pPts c i (P c)) ∗ (bigSep Finset.univ fun i => atPos ER (dCell 0 c i) (0 + 1) ∅ 0)
      ∗ (bigSep Finset.univ fun i => oPts c c i (outAt P Gm c)) ∗ bigSep Finset.univ fun i => atPos ER (dCell 2 c i) (0 + 1) ∅ 0) := by
  unfold B4; simp only [bigSep_sep']
theorem posAt_all (c : Dev nD) (r : ℕ) : (bigSep Finset.univ fun i => (posAt c r i : sProp 𝕄))
    = iprop((bigSep Finset.univ fun i => atPos ER (dCell 0 c i) r ∅ 0) ∗ (bigSep Finset.univ fun i => atPos ER (dCell 1 c i) r ∅ 0)
      ∗ (bigSep Finset.univ fun i => atPos ER (dCell 2 c i) r ∅ 0) ∗ bigSep Finset.univ fun i => atPos ER (dCell 3 c i) r ∅ 0) := by
  unfold posAt; simp only [bigSep_sep']
theorem starts_all (c : Dev nD) : (bigSep Finset.univ fun i => (starts c i : sProp 𝕄))
    = iprop((bigSep Finset.univ fun i => reached ER (dCell 0 c i) 0) ∗ (bigSep Finset.univ fun i => reached ER (dCell 1 c i) 0)
      ∗ (bigSep Finset.univ fun i => reached ER (dCell 2 c i) 0) ∗ bigSep Finset.univ fun i => reached ER (dCell 3 c i) 0) := by
  unfold starts; simp only [bigSep_sep']
theorem payToks_all (c : Dev nD) : (bigSep Finset.univ fun i => (payToks c i : sProp 𝕄))
    = iprop((bigSep Finset.univ fun i => dutyTok ER (dCell 0 c i) 0 false) ∗ (bigSep Finset.univ fun i => dutyTok ER (dCell 1 (xp c) i) 0 false)
      ∗ (bigSep Finset.univ fun i => dutyTok ER (dCell 2 c i) 0 false) ∗ bigSep Finset.univ fun i => dutyTok ER (dCell 3 (yp c) i) 0 false) := by
  unfold payToks; simp only [bigSep_sep']
theorem credIn_all (c : Dev nD) : (bigSep Finset.univ fun i => (credIn c i : sProp 𝕄))
    = iprop((bigSep Finset.univ fun i => cred (tallyAt (dCell 1 c i) () N)) ∗ bigSep Finset.univ fun i => cred (tallyAt (dCell 3 c i) () N)) := by
  unfold credIn; simp only [bigSep_sep']

/-- The four loops, from the offers received, to the whole buffers at their last contents. -/
theorem loops_run (c : Dev nD) (W : Waits sig Unit) (Q : PUnit → sProp 𝕄) (fo : cc0_stg2_0.ty.Contents (Elt F)) :
    iprop(ctx P Gm K ∗ owes (c : Thread nD τ) (owedY c Finset.univ + owedX c Finset.univ) W
      ∗ (bigSep Finset.univ fun i : Fin 8 => xOffer (xp c) i) ∗ (bigSep Finset.univ fun i : Fin 8 => yOffer (yp c) i)
      ∗ (bigSep Finset.univ fun i : Fin 8 => posAt c 0 i) ∗ (bigSep Finset.univ fun i : Fin 8 => reached ER (dCell 0 c i) 0)
      ∗ (bigSep Finset.univ fun i : Fin 8 => reached ER (dCell 2 c i) 0)
      ∗ (bigSep Finset.univ fun i : Fin 8 => payToks c i) ∗ (bigSep Finset.univ fun i : Fin 8 => credIn c i)
      ∗ pWhole c (P c) ∗ gPts Gm c ∗ bigSep Finset.univ fun i : Fin 8 => oPts c c i fo)
    ⊢ iprop(((∃ W', owes (c : Thread nD τ) 0 W') ∗ (bigSep Finset.univ fun i : Fin 8 => posAt c (0 + 1) i)
        ∗ pWhole c (P c) ∗ gPts Gm c ∗ oWhole c (outAt P Gm c) ∗ sWhole c (slotAt P c) -∗ Q ⟨⟩)
      -∗ run c (do
        each (xsend (F := F) pM rM cc0_scratch1 cc0_scratch2 c) chunks
        each (chunk (F := F) pM gM oM rM cc0_scratch2 cc0_scratch3 cc0_scratch4 c) chunks
        each (ywait (F := F) oM cc0_scratch4 c) chunks
        each (swait (F := F) pM oM rM cc0_scratch1 cc0_scratch3 c) chunks) Q) := by
  iintro ⟨#HC, HO, Hx, Hy, Hpos, Hr0, Hr2, Htok, Hcr, Hp, Hg, Ho⟩ Hk
  ihave Hpos' := (Entails.of_eq (posAt_all (F := F) c 0)) $$ Hpos
  icases Hpos' with ⟨Ha0, Ha1, Ha2, Ha3⟩
  ihave Htok' := (Entails.of_eq (payToks_all (F := F) c)) $$ Htok
  icases Htok' with ⟨Ht0, Ht1, Ht2, Ht3⟩
  ihave Hcr' := (Entails.of_eq (credIn_all (F := F) c)) $$ Hcr
  icases Hcr' with ⟨Hc1, Hc3⟩
  ihave Hp' := (pWhole_parts P c).1 $$ Hp
  icases Hp' with ⟨Hp, Hrest⟩
  ihave Ho := (own_free (F := F) c fo) $$ Ho
  iapply (run_chunks c _ (I1 P Gm K c) (A1 P c) (B1 (F := F) c) (step1 P Gm K c)) $$ [HO Hp Hx Ht0 Hr0 Ht1]
  · isplitl [HO]
    · unfold I1
      isplitr; · iexact HC
      iexists W; iexact HO
    iapply (Entails.of_eq (A1_all P c).symm)
    isplitl [Hp]; · iexact Hp
    isplitl [Hx]; · iexact Hx
    isplitl [Ht0]; · iexact Ht0
    isplitl [Hr0]; · iexact Hr0
    iexact Ht1
  iintro ⟨HI, Hc0⟩
  unfold I1
  rw [owedX_empty, add_zero]
  icases HI with ⟨-, HO⟩
  iapply (run_chunks c _ (I2 P Gm K c) (A2 (F := F) c) (B2 P c) (step2 P Gm K c)) $$ [HO Hrest Hg Hc1 Ha1 Ho Hy Ht2 Hr2 Ht3]
  · isplitl [HO Hrest Hg]
    · unfold I2
      isplitr; · iexact HC
      isplitl [Hrest]; · iexact Hrest
      isplitl [Hg]; · iexact Hg
      iexact HO
    iapply (Entails.of_eq (A2_all (F := F) c).symm)
    isplitl [Hc1]; · iexact Hc1
    isplitl [Ha1]; · iexact Ha1
    isplitl [Ho]; · iexact Ho
    isplitl [Hy]; · iexact Hy
    isplitl [Ht2]; · iexact Ht2
    isplitl [Hr2]; · iexact Hr2
    iexact Ht3
  iintro ⟨HI, HB⟩
  unfold I2
  rw [owedY_empty]
  icases HI with ⟨-, Hrest, Hg, HO⟩
  ihave HB' := (Entails.of_eq (B2_all P c)) $$ HB
  icases HB' with ⟨Hs, Ha1, Hc2⟩
  iapply (run_chunks c _ (I3 P Gm K c) (A3 (F := F) c) (B3 P Gm c) (step3 P Gm K c)) $$ [HO Hc3 Ha3]
  · isplitl [HO]
    · unfold I3
      isplitr; · iexact HC
      iexact HO
    iapply (Entails.of_eq (A3_all (F := F) c).symm)
    isplitl [Hc3]; · iexact Hc3
    iexact Ha3
  iintro ⟨HI, HB⟩
  ihave HB' := (Entails.of_eq (B3_all P Gm c)) $$ HB
  icases HB' with ⟨Hoy, Ha3⟩
  have hlast := run_each c _ (I3 P Gm K c) (A4 (F := F) c) (B4 P Gm c) (step4 P Gm K c) chunks (by decide)
  rw [show chunks.toFinset = Finset.univ from by decide] at hlast
  unfold run at hlast ⊢
  ihave Hw := hlast $$ [HI Hc0 Ha0 Hc2 Ha2]
  · isplitl [HI]; · iexact HI
    iapply (Entails.of_eq (A4_all (F := F) c).symm)
    isplitl [Hc0]; · iexact Hc0
    isplitl [Ha0]; · iexact Ha0
    isplitl [Hc2]; · iexact Hc2
    iexact Ha2
  iapply (wp_wand frame (wpE (defs₀ (F := F)) 𝒱₀ (c : Thread nD τ) none) Set.univ) $$ Hw
  iintro %a ⟨HI, HB⟩
  cases a
  ihave HB' := (Entails.of_eq (B4_all P Gm c)) $$ HB
  icases HB' with ⟨Hp, Ha0, Hoc, Ha2⟩
  unfold I3
  icases HI with ⟨-, HO⟩
  iapply Hk
  isplitl [HO]; · iexact HO
  isplitl [Ha0 Ha1 Ha2 Ha3]
  · iapply (Entails.of_eq (posAt_all (F := F) c (0 + 1)).symm)
    isplitl [Ha0]; · iexact Ha0
    isplitl [Ha1]; · iexact Ha1
    isplitl [Ha2]; · iexact Ha2
    iexact Ha3
  isplitl [Hp Hrest]
  · iapply (pWhole_parts P c).2
    isplitl [Hp]; · iexact Hp
    iexact Hrest
  isplitl [Hg]; · iexact Hg
  isplitl [Hoc Hoy]
  · iapply (Entails.of_eq (oWhole_parts c (outAt P Gm c)).symm)
    isplitl [Hoc]; · iexact Hoc
    iexact Hoy
  iapply (Entails.of_eq (sWhole_parts c (slotAt P c)).symm)
  iexact Hs

/-- The body of device `c`: from its launch state and its buffers, to every cell one round on and the result made. -/
theorem body_run (c : Dev nD) (W : Waits sig Unit) (Q : PUnit → sProp 𝕄) (fo : cc0_stg2_0.ty.Contents (Elt F)) (fs : cc0_scratch0.ty.Contents (Elt F)) :
    iprop(before P Gm K c ∗ owes (c : Thread nD τ) (O₀ c) W ∗ pWhole c (P c) ∗ gPts Gm c ∗ oWhole c fo ∗ sWhole c fs)
    ⊢ iprop((after P Gm K c ∗ (∃ W', owes (c : Thread nD τ) 0 W')
        ∗ pWhole c (P c) ∗ gPts Gm c ∗ oWhole c (outAt P Gm c) ∗ sWhole c (slotAt P c) -∗ Q ⟨⟩)
      -∗ run c (loops (F := F) pM gM oM rM cc0_scratch1 cc0_scratch2 cc0_scratch3 cc0_scratch4) Q) := by
  unfold before after O₀ loops run
  simp only [semSignalWord, semWaitWord, Prog.lift, Prog.bind_op, Prog.bind_ret, Prog.pure_eq_ret, wp_deviceId]
  rw [sdev1_eq, sdev2_eq]
  iintro ⟨⟨#HC, HcB, HatB, HtX, HtY, Hpos, Hst, Htok, Hcr⟩, HO, Hp, Hg, Ho, Hs⟩ Hk
  ihave Hst' := (Entails.of_eq (starts_all (F := F) c)) $$ Hst
  icases Hst' with ⟨Hr0, Hr1, Hr2, Hr3⟩
  ihave Ho' := (Entails.of_eq (oWhole_parts c fo)) $$ Ho
  icases Ho' with ⟨Hoc, Hoy⟩
  ihave Hxo := (offer_x c fs) $$ [Hs Hr1]
  · isplitl [Hs]; · iexact Hs
    iexact Hr1
  ihave Hyo := (offer_y c fo) $$ [Hoy Hr3]
  · isplitl [Hoy]; · iexact Hoy
    iexact Hr3
  iapply (Rounds.wp_signal 𝒱₀ ER (talkRd P Gm) (c : Thread nD τ) none (dst := (xp c : Thread nD τ)) (κ := K (barCell (xp c)))
      (d := true) (by rw [duties_bar]; exact Finset.mem_univ _) ((amount_bar P Gm (xp c) true).trans (by decide)) ()
      (owedY c Finset.univ + owedX c Finset.univ + tallyAt (barCell (yp c)) () 1) rfl) $$ [HO HtX Hxo]
  · isplitr; · iapply (ctx_bar P Gm K (xp c)); iexact HC
    isplitl [HO]; · iexact HO
    isplitl [HtX]; · iexact HtX
    isplitl [Hxo]
    · rw [payload_bar]; unfold barPay; rw [if_pos rfl, xp_xp]; iexact Hxo
    iapply (ctx_reached P Gm K (xp c)); iexact HC
  iintro HO
  iapply (Rounds.wp_signal 𝒱₀ ER (talkRd P Gm) (c : Thread nD τ) none (dst := (yp c : Thread nD τ)) (κ := K (barCell (yp c)))
      (d := false) (by rw [duties_bar]; exact Finset.mem_univ _) ((amount_bar P Gm (yp c) false).trans (by decide)) ()
      (owedY c Finset.univ + owedX c Finset.univ) rfl) $$ [HO HtY Hyo]
  · isplitr; · iapply (ctx_bar P Gm K (yp c)); iexact HC
    isplitl [HO]; · iexact HO
    isplitl [HtY]; · iexact HtY
    isplitl [Hyo]
    · rw [payload_bar]; unfold barPay; rw [if_neg Bool.false_ne_true, yp_yp]; iexact Hyo
    iapply (ctx_reached P Gm K (yp c)); iexact HC
  iintro HO
  iapply (Rounds.wp_wait_rest_token 𝒱₀ ER (talkRd P Gm) (c : Thread nD τ) none (κ := K (barCell c))
      (wpE_semWait_eq 𝒱₀ (c : Thread nD τ) none Set.univ) (Set.mem_univ _) () (O := owedY c Finset.univ + owedX c Finset.univ) (W := W) (R := 0) (m := 0) (T := ∅)
      (by rw [expect_bar]; decide)) $$ [HcB HO HatB]
  · isplitr; · iapply (ctx_bar P Gm K c); iexact HC
    isplitl [HcB]; · iexact HcB
    isplitl [HO]; · iexact HO
    isplitr
    · iapply (mayWait_below c (.reg barS) 1 rfl _ owedXY_above); iapply (ctx_lev P Gm K); iexact HC
    iexact HatB
  iintro ⟨HO, HatB, -, Hpay⟩
  ihave Hp2 := (Entails.of_eq (rest_bar P Gm c)) $$ Hpay
  icases Hp2 with ⟨Hx, Hy⟩
  iapply (loops_run P Gm K c (insert (SemLoc.reg barS, ()) W) Q fo) $$ [HO Hx Hy Hpos Hr0 Hr2 Htok Hcr Hp Hg Hoc]
  · isplitr; · iexact HC
    isplitl [HO]; · iexact HO
    isplitl [Hx]; · iexact Hx
    isplitl [Hy]; · iexact Hy
    isplitl [Hpos]; · iexact Hpos
    isplitl [Hr0]; · iexact Hr0
    isplitl [Hr2]; · iexact Hr2
    isplitl [Htok]; · iexact Htok
    isplitl [Hcr]; · iexact Hcr
    isplitl [Hp]; · iexact Hp
    isplitl [Hg]; · iexact Hg
    iexact Hoc
  iintro ⟨HO, Hpos, Hp, Hg, Ho, Hs⟩
  iapply Hk
  isplitl [HatB Hpos]
  · isplitr; · iexact HC
    isplitl [HatB]; · iexact HatB
    iexact Hpos
  isplitl [HO]; · iexact HO
  isplitl [Hp]; · iexact Hp
  isplitl [Hg]; · iexact Hg
  isplitl [Ho]; · iexact Ho
  iexact Hs

end Cert.KernelIdealTalk

end
-- ==== Proof.KernelIdealRegion.lean ====
/-
The region as the launch meets it: what the buffers hold when it is entered and left, the copy cells opened at its start
and closed at its end, and the body obligation.
-/
module

public import proofs.«01_k».proof.Proof.KernelIdealBody
public import proofs.«01_k».proof.Proof.Gen.KernelIdeal.Launch
public import proofs.«01_k».proof.Proof.Gen.KernelIdeal.Frame

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- A device's buffers at launch, and after the two reshapes. -/
abbrev V₀ (c : Dev nD) : Valuation τ sig (Elt F) := fun b => m (c, b)
def V₁ (c : Dev nD) : Valuation τ sig (Elt F) := StableHlo.after hostOps0 (V₀ m c)

/-- The partial sums and the scale that the region stages on device `c`. -/
def partials (c : Dev nD) : cc0_stg0_0.ty.Contents (Elt F) := V₁ m c (Proc.devRef .tc main_v1)
def scale (c : Dev nD) : cc0_stg1_0.ty.Contents (Elt F) := V₁ m c (Proc.devRef .tc main_v2)
/-- The result of device `c`. -/
def result (c : Dev nD) : cc0_stg2_0.ty.Contents (Elt F) := outAt (partials m) (scale m) c

/-- A device's buffers after the region. -/
def V₂ (c : Dev nD) : Valuation τ sig (Elt F) := Function.update (V₁ m c) (Proc.devRef .tc main_v3) (result m c)

theorem V₂_out (c : Dev nD) : V₂ m c (Proc.devRef .tc main_v3) = result m c := Function.update_self ..
theorem V₂_of_ne (c : Dev nD) {b : DevRef τ sig} (h : b ≠ Proc.devRef .tc main_v3) : V₂ m c b = V₁ m c b := Function.update_of_ne h ..

/-! ## The copy cells, opened and closed -/

/-- The kernel's own semaphores: the four arrays of eight. -/
abbrev osem (x : Fin 4 × Fin 8) : SemLoc sig := .dma (dsem x.1 x.2)

theorem osem_facts : Pipeline.OwnSemFacts spec0 osem := by decide

/-- A family over the thirty-two copy cells, chunk by chunk. -/
theorem by_chunk (Φ : Fin 4 → Fin 8 → sProp 𝕄) :
    (bigSep Finset.univ fun x : Fin 4 × Fin 8 => Φ x.1 x.2) = bigSep Finset.univ fun i : Fin 8 => iprop(Φ 0 i ∗ Φ 1 i ∗ Φ 2 i ∗ Φ 3 i) := by
  rw [bigSep_univ_prod, bigSep_univ_eq_bigSepL [0, 1, 2, 3] (by decide) (by decide), bigSepL_cons_cons, bigSepL_cons_cons, bigSepL_cons_cons, bigSepL_singleton]
  simp only [bigSep_sep']
  rfl

variable (P : Dev nD → cc0_stg0_0.ty.Contents (Elt F)) (Gm : Dev nD → cc0_stg1_0.ty.Contents (Elt F)) (K : GSem nD τ sig → ℕ)

/-- What a device needs to open its copy cells. -/
def openToks (c : Dev nD) : sProp 𝕄 := bigSep Finset.univ fun x : Fin 4 × Fin 8 => openTok ER (dCell x.1 c x.2)

/-- The copy cells open: their counters go in, their positions and first rounds come out. -/
theorem open_all (c : Dev nD) :
    iprop(records P Gm K ∗ openToks c ∗ Pipeline.ownSems0 osem c)
      ⊢ (|={Set.univ}=> iprop((bigSep Finset.univ fun i : Fin 8 => posAt c 0 i) ∗ bigSep Finset.univ fun i : Fin 8 => starts c i) : sProp 𝕄) := by
  have h1 : ∀ x ∈ (Finset.univ : Finset (Fin 4 × Fin 8)), iprop(records P Gm K ∗ (openTok ER (dCell x.1 c x.2) ∗ semVal (dCell x.1 c x.2) 0))
      ⊢ (|={Set.univ}=> iprop(atPos ER (dCell x.1 c x.2) 0 ∅ 0 ∗ reached ER (dCell x.1 c x.2) 0) : sProp 𝕄) := by
    intro x _
    iintro ⟨HR, Ho, Hs⟩
    iapply (Rounds.cell_open ER (talkRd P Gm) (g := dCell x.1 c x.2) (Set.mem_univ (K (dCell x.1 c x.2))))
    isplitl [HR]; · iapply (inv_d P Gm K x.1 c x.2); iexact HR
    isplitl [Ho] <;> iassumption
  have h2 := (bigSep_with_persistent h1).trans (bigSep_fupd _ _)
  rw [bigSep_sep', bigSep_sep', by_chunk fun k i => atPos ER (dCell k c i) 0 ∅ 0, by_chunk fun k i => reached ER (dCell k c i) 0] at h2
  exact h2

/-- All of a device's cells close: every counter is back at zero. -/
theorem close_all (c : Dev nD) :
    after P Gm K c ⊢ (|={Set.univ}=> iprop(semVal (barCell c) 0 ∗ Pipeline.ownSems0 osem c) : sProp 𝕄) := by
  have h1 : ∀ x ∈ (Finset.univ : Finset (Fin 4 × Fin 8)), iprop(records P Gm K ∗ atPos ER (dCell x.1 c x.2) (0 + 1) ∅ 0)
      ⊢ (|={Set.univ}=> semVal (dCell x.1 c x.2) 0 : sProp 𝕄) := by
    intro x _
    iintro ⟨HR, Ha⟩
    iapply (Rounds.cell_close ER (talkRd P Gm) (Set.mem_univ (K (dCell x.1 c x.2))) (fun h => h) (R := 0 + 1) (duties_later P Gm (dCell x.1 c x.2)))
    isplitl [HR]; · iapply (inv_d P Gm K x.1 c x.2); iexact HR
    iexact Ha
  have h2 := (bigSep_with_persistent h1).trans (bigSep_fupd _ _)
  rw [by_chunk fun k i => atPos ER (dCell k c i) (0 + 1) ∅ 0] at h2
  unfold after ctx Pipeline.ownSems0
  iintro ⟨⟨#HR, -⟩, Hb, Hd⟩
  imod (Rounds.cell_close ER (talkRd P Gm) (Set.mem_univ (K (barCell c))) (fun h => h) (R := 0 + 1) (duties_later P Gm (barCell c))) $$ [Hb] with Hz
  · isplitr; · iapply (inv_bar P Gm K c); iexact HR
    iexact Hb
  imod h2 $$ [Hd] with Hs
  · isplitr; · iexact HR
    iexact Hd
  imodintro
  isplitl [Hz]; · iexact Hz
  iexact Hs

/-! ## The region's proof data -/

/-- What a device holds of the protocol when the region is entered, its copy cells not yet open. -/
def dealt (c : Dev nD) : sProp 𝕄 :=
  iprop((∃ K, records P Gm K) ∗ cred (tallyAt (barCell c) () 2) ∗ atPos ER (barCell c) 0 ∅ 0
    ∗ dutyTok ER (barCell (xp c)) 0 true ∗ dutyTok ER (barCell (yp c)) 0 false ∗ openToks c
    ∗ (bigSep Finset.univ fun i : Fin 8 => payToks c i) ∗ bigSep Finset.univ fun i : Fin 8 => credIn c i)

theorem open_region (c : Dev nD) :
    iprop(dealt P Gm c ∗ Pipeline.ownSems0 osem c ∗ levAts L lv) ⊢ (|={Set.univ}=> ∃ K, before P Gm K c : sProp 𝕄) := by
  unfold dealt before ctx
  iintro ⟨⟨⟨%K, #HR⟩, Hc, Ha, Ht1, Ht2, Ho, Hp, Hcr⟩, Hs, #Hl⟩
  imod (open_all P Gm K c) $$ [Ho Hs] with ⟨Hpos, Hst⟩
  · isplitr; · iexact HR
    isplitl [Ho] <;> iassumption
  imodintro
  iexists K
  isplitr
  · isplitr; · iexact HR
    iexact Hl
  isplitl [Hc]; · iexact Hc
  isplitl [Ha]; · iexact Ha
  isplitl [Ht1]; · iexact Ht1
  isplitl [Ht2]; · iexact Ht2
  isplitl [Hpos]; · iexact Hpos
  isplitl [Hst]; · iexact Hst
  isplitl [Hp]; · iexact Hp
  iexact Hcr

/-- The scratch of the kernel, at contents not chosen. -/
abbrev scratchAny (c : Dev nD) : sProp 𝕄 :=
  iprop(∃ f : Buf (Elt F) ((c : Thread nD τ).loc cc0_scratch0), ((c : Thread nD τ).loc cc0_scratch0) ↦{fullShare} f)

/-- The invariant before the region's one point, and after it. -/
def enterInv (c : Dev nD) : sProp 𝕄 := iprop((∃ K, before (partials m) (scale m) K c) ∗ scratchAny c ∗ ∃ r, prngReg c r)
def leaveInv (c : Dev nD) : sProp 𝕄 := iprop((semVal (barCell c) 0 ∗ Pipeline.ownSems0 osem c) ∗ scratchAny c ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => partials m c
    | ⟨1, _⟩ => scale m c
    | ⟨2, _⟩ => result m c
  Φ t := match t with
    | ⟨0, _⟩ => enterInv m c
    | ⟨_ + 1, _⟩ => leaveInv c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem share_full (c : Dev nD) (w : Fin cfg0.W) : (dat m c).share w = fullShare := by unfold Dat.share; split <;> rfl
theorem owed_first (c : Dev nD) : (dat m c).owed 0 = O₀ c := rfl
theorem owed_last (c : Dev nD) : (dat m c).owed (Fin.last _) = 0 := rfl
theorem inv_first (c : Dev nD) : (dat m c).Φ 0 = enterInv m c := rfl
theorem inv_last (c : Dev nD) : (dat m c).Φ (Fin.last _) = leaveInv c := rfl

/-- A core's debts, as the pipeline keeps them. -/
theorem owesAt_make {c : Dev nD} (t : Fin (cfg0.N + 1)) {O : CellTallies nD τ sig Unit} (h : (dat m c).owed t = O) (W : Waits sig Unit) :
    (owes (c : Thread nD τ) O W : sProp 𝕄) ⊢ (dat m c).owesAt () t := by
  unfold Dat.owesAt Pipeline.owesWithin Dat.bound
  rw [h]
  iintro HO
  iexists W
  isplitr; · ipureintro; exact fun _ _ => Or.inl trivial
  iexact HO
theorem owesAt_open {c : Dev nD} (t : Fin (cfg0.N + 1)) {O : CellTallies nD τ sig Unit} (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W; iexact HO

/-! ## The body obligation -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A window's one block is its whole array. -/
theorem block_p (c : Dev nD) (f : Buf (Elt F) ((c : Thread nD τ).loc main_v1)) : (win0_0.blk t0_0).view.read (Elt F) f = f :=
  Memref.read_access_unit_zero (Elt F) main_v1 (funext fun a => by fin_cases a <;> decide) (fun a => by fin_cases a <;> decide) f
theorem block_g (c : Dev nD) (f : Buf (Elt F) ((c : Thread nD τ).loc main_v2)) : (win0_1.blk t0_0).view.read (Elt F) f = f :=
  Memref.read_access_unit_zero (Elt F) main_v2 (funext fun a => by fin_cases a <;> decide) (fun a => by fin_cases a <;> decide) f
theorem block_o (c : Dev nD) (f : Buf (Elt F) ((c : Thread nD τ).loc main_v3)) : (win0_2.blk t0_0).view.read (Elt F) f = f :=
  Memref.read_access_unit_zero (Elt F) main_v3 (funext fun a => by fin_cases a <;> decide) (fun a => by fin_cases a <;> decide) f

theorem before_p (c : Dev nD) (d) : (dat m c).before (0 : Fin 3) t0_0 d = partials m c := by
  unfold Dat.before; rw [if_pos (fetch0_0 t0_0)]
  exact block_p c (V₁ m c (Proc.devRef .tc main_v1))
theorem before_g (c : Dev nD) (d) : (dat m c).before (1 : Fin 3) t0_0 d = scale m c := by
  unfold Dat.before; rw [if_pos (fetch0_1 t0_0)]
  exact block_g c (V₁ m c (Proc.devRef .tc main_v2))

/-- The result's array after the run is the result. -/
theorem array_out (c : Dev nD) : (dat m c).arrAt (2 : Fin 3) cfg0.N = V₂ m c (Proc.devRef .tc main_v3) := by
  have h : (win0_2.blk t0_0).view.read (Elt F) ((dat m c).arrAt (2 : Fin 3) cfg0.N) = result m c := by
    rw [show cfg0.N = t0_0.val + 1 from rfl, (dat m c).arrAt_succ (2 : Fin 3) t0_0, flush0_2, if_pos rfl]
    exact View.read_write_univ _ _
  rw [V₂_out]
  exact (block_o c _).symm.trans h

/-- What the body is given at the region's point, and what it leaves. -/
def bodyPre (c : Dev nD) : sProp 𝕄 :=
  iprop(enterInv m c ∗ (dat m c).owesAt () t0_0.castSucc
    ∗ (∃ d, stg c cc0_stg0_0 ((dat m c).before (0 : Fin 3) t0_0 d)) ∗ (∃ d, stg c cc0_stg1_0 ((dat m c).before (1 : Fin 3) t0_0 d))
    ∗ ∃ d, stg c cc0_stg2_0 ((dat m c).before (2 : Fin 3) t0_0 d))
def bodyPost (c : Dev nD) : sProp 𝕄 :=
  iprop(leaveInv c ∗ (dat m c).owesAt () t0_0.succ ∗ stg c cc0_stg0_0 (partials m c) ∗ stg c cc0_stg1_0 (scale m c) ∗ stg c cc0_stg2_0 (result m c))

theorem sound_body (c : Dev nD) :
    bodyPre m c ⊢ run c (loops (F := F) pM gM oM rM cc0_scratch1 cc0_scratch2 cc0_scratch3 cc0_scratch4) (fun _ => bodyPost m c) := by
  refine BIBase.Entails.trans ?_ (wp_fupd frame (wpE (defs₀ (F := F)) 𝒱₀ (c : Thread nD τ) none) Set.univ _ _)
  unfold bodyPre enterInv
  iintro ⟨⟨⟨%K, HB⟩, ⟨%fs, Hs⟩, Hreg⟩, HO, ⟨%d0, %f0, %h0, Hp⟩, ⟨%d1, %f1, %h1, Hg⟩, ⟨%d2, %f2, -, Ho⟩⟩
  rw [before_p] at h0
  rw [before_g] at h1
  subst h0
  subst h1
  ihave HO' := (owesAt_open m t0_0.castSucc (show (dat m c).owed t0_0.castSucc = O₀ c from rfl)) $$ HO
  icases HO' with ⟨%W, HO⟩
  have hb := body_run (partials m) (scale m) K c W (fun _ => iprop(|={Set.univ}=> bodyPost m c)) f2 fs
  unfold pWhole gPts oWhole sWhole at hb
  iapply hb $$ [HB HO Hp Hg Ho Hs]
  · isplitl [HB]; · iexact HB
    isplitl [HO]; · iexact HO
    isplitl [Hp]; · iexact Hp
    isplitl [Hg]; · iexact Hg
    isplitl [Ho]; · iexact Ho
    iexact Hs
  iintro ⟨HA, ⟨%W', HO⟩, Hp, Hg, Ho, Hs⟩
  imod (close_all (partials m) (scale m) K c) $$ HA with Hz
  imodintro
  unfold bodyPost leaveInv
  isplitl [Hz Hs Hreg]
  · isplitl [Hz]; · iexact Hz
    isplitl [Hs]; · iexists _; iexact Hs
    iexact Hreg
  isplitl [HO]; · iapply (owesAt_make m t0_0.succ (show (dat m c).owed t0_0.succ = 0 from rfl) W'); iexact HO
  isplitl [Hp]
  · iexists _; isplitr; · (ipureintro; rfl)
    iexact Hp
  isplitl [Hg]
  · iexists _; isplitr; · (ipureintro; rfl)
    iexact Hg
  iexists _; isplitr; · (ipureintro; rfl)
  iexact Ho

/-- The same of the printed body. -/
theorem sound_printed (c : Dev nD) :
    bodyPre m c ⊢ run c (cc0_body (F := F) pM (Memref.isWhole_whole _) gM (Memref.isWhole_whole _) oM (Memref.isWhole_whole _) rM (Memref.isWhole_whole _)
      cc0_scratch1 cc0_scratch2 cc0_scratch3 cc0_scratch4) (fun _ => bodyPost m c) :=
  Eq.mpr (congrArg (fun p => bodyPre m c ⊢ run c p fun _ => bodyPost m c)
    (body_eq_loops (F := F) pM gM oM rM cc0_scratch1 cc0_scratch2 cc0_scratch3 cc0_scratch4
      (Memref.isWhole_whole _) (Memref.isWhole_whole _) (Memref.isWhole_whole _) (Memref.isWhole_whole _))) (sound_body m c)

set_option maxRecDepth 4000 in
/-- The pipeline's obligation of the body. -/
theorem body_obligation (c : Dev nD) : BodyObligation (dat m c) (defs₀ (F := F)) 𝒱₀ () Set.univ := fun t => by
  obtain rfl := fin_N0 t
  rw [bigSep_W0, bigSep_W0]
  simp only [owns_stg]
  have e1 : (dat m c).Φ t0_0.castSucc = enterInv m c := rfl
  have e2 : (dat m c).Φ t0_0.succ = leaveInv c := rfl
  have e3 : (dat m c).after (0 : Fin 3) t0_0 = partials m c := rfl
  have e4 : (dat m c).after (1 : Fin 3) t0_0 = scale m c := rfl
  have e5 : (dat m c).after (2 : Fin 3) t0_0 = result m c := rfl
  have e6 : defs₀ (F := F) Proc.tc 0 (t0_0, cfg0.slots t0_0) = cc0_body (F := F) pM (Memref.isWhole_whole _) gM (Memref.isWhole_whole _) oM (Memref.isWhole_whole _)
    rM (Memref.isWhole_whole _) cc0_scratch1 cc0_scratch2 cc0_scratch3 cc0_scratch4 := rfl
  rw [e1, e2, e3, e4, e5, e6]
  have e7 : iprop(leaveInv c ∗ (dat m c).owesAt () t0_0.succ ∗ stg c cc0_stg0_0 (partials m c) ∗ stg c cc0_stg1_0 (scale m c)
      ∗ stg c cc0_stg2_0 (result m c)) = bodyPost m c := rfl
  rw [e7]
  refine BIBase.Entails.trans (Q := bodyPre m c) ?_ ((sound_printed m c).trans ?_)
  · unfold bodyPre
    iintro ⟨H1, H2, H3, H4, H5⟩
    isplitl [H1]; · iexact H1
    isplitl [H2]; · iexact H2
    isplitl [H3]; · iexact H3
    isplitl [H4]; · iexact H4
    iexact H5
  · refine Entails.of_eq ?_
    with_reducible congr 3

end Cert.KernelIdealTalk

end
-- ==== Proof.KernelIdealLaunch.lean ====
/-
The program as two segments — the reshapes, then the region — and its run from launch: the cells funded, the tokens and the
launch credit dealt to the devices, and what every final state holds.
-/
module

public import proofs.«01_k».proof.Proof.KernelIdealRegion
public import Idealize.ShloMosaic.Lib.Pipeline.RegionTalk

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers outside the region -/

/-- The buffers of the program that no region scopes: the two arguments, their reshapes, the result. -/
def bufs : Finset (DevRef τ sig) := (StableHlo.tcRefs τ sig).filter fun b => ¬ b.isScoped
/-- The two arguments. -/
def args : Finset (DevRef τ sig) := {Proc.devRef .tc main_arg0, Proc.devRef .tc main_arg1}

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) args W) := by
  rw [StableHlo.held_sub_split (c : Thread nD τ) (by decide : Pipeline.arrRefs (τ := τ) spec0 ⊆ bufs) W]
  rw [show bufs \ Pipeline.arrRefs (τ := τ) spec0 = args from by decide]

theorem held_none (c : Dev nD) (W : Valuation τ sig (Elt F)) : (StableHlo.held (c : Thread nD τ) ∅ W : sProp 𝕄) = BI.emp := by
  unfold StableHlo.held; exact BI.bigSep_empty

theorem ops_bufs : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide

/-! ## The two segments -/

/-- What rides beside the buffers until the region: the protocol's share of the device, the generator, what the core owes. -/
def rest (c : Dev nD) : sProp 𝕄 :=
  iprop(dealt (partials m) (scale m) c ∗ (∃ r, prngReg c r) ∗ ∃ W, owes (c : Thread nD τ) (O₀ c) W)

def hostPart : Pipeline.HostSeg (Name := ℕ) (U := UU) (pcfgs (F := F)) defs₀ 𝒱₀ L lv :=
  Pipeline.HostSeg.ofOps _ _ _ _ _ bufs hostOps0 ops_bufs (List.forall_iff_forall_mem.mp hostOps0_fresh) (V₀ m) (rest m)

theorem levels (c : Dev nD) (t : Fin ((Pipeline.pin (pcfgs (F := F)) adm 0).N + 1)) (g : GSem nD τ sig) (u : Unit)
    (h : 0 < (pdats (F := F) m 0 c).owed t g u) : u ∈ L g ∧ (0 : ℕ) < lv g u := by
  match t with
  | ⟨0, _⟩ =>
    have h' := O₀_above g u (show 0 < O₀ c g u from h)
    exact ⟨by unfold L; rw [if_pos h'.1]; exact Finset.mem_singleton_self _, h'.2⟩
  | ⟨_ + 1, _⟩ => exact absurd h (Nat.lt_irrefl 0)

theorem enter (c : Dev nD) :
    iprop(Pipeline.scopedRest (Pipeline.pin (pcfgs (F := F)) adm 0).spec c ∗ (∃ r, prngReg c r) ∗ StableHlo.held (c.tc : Thread nD τ) ∅ (V₁ m c)
      ∗ ∃ K, before (partials m) (scale m) K c) ⊢ ((pdats m 0 c).Φ 0 : sProp 𝕄) := by
  rw [show (pdats m 0 c).Φ 0 = enterInv m c from rfl, show (Pipeline.pin (pcfgs (F := F)) adm 0).spec = spec0 from rfl, scopedRest0_eq]
  unfold enterInv
  iintro ⟨Hs, Hp, -, HK⟩
  isplitl [HK]; · iexact HK
  isplitl [Hs]; · iexact Hs
  iexact Hp

theorem leave (c : Dev nD) :
    ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barCell c) 0) := by
  rw [show (pdats m 0 c).Φ (Fin.last _) = leaveInv c from rfl, show (Pipeline.pin (pcfgs (F := F)) adm 0).spec = spec0 from rfl, scopedRest0_eq, held_none]
  unfold leaveInv
  iintro ⟨⟨Hb, Ho⟩, Hs, Hp⟩
  isplitl [Hs]; · iexact Hs
  isplitl [Hp]; · iexact Hp
  isplitr; · iempintro
  isplitl [Ho]; · iexact Ho
  iexact Hb

theorem args_kept (c : Dev nD) : ∀ b ∈ args \ ∅, V₂ m c b = V₁ m c b := fun b hb => V₂_of_ne m c <| by
  rintro rfl
  exact absurd hb (by decide)

theorem arrays_last (c : Dev nD) (w : Fin 3) : (dat m c).arrAt w cfg0.N = V₂ m c (Proc.devRef .tc (Pipeline.arrRef spec0 w)) := by
  match w with
  | 0 => exact ((dat m c).arrAt_in (0 : Fin 3) rfl _).trans (V₂_of_ne m c (by decide)).symm
  | 1 => exact ((dat m c).arrAt_in (1 : Fin 3) rfl _).trans (V₂_of_ne m c (by decide)).symm
  | 2 => exact array_out m c

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ args (Finset.empty_subset _) launch0.toP rfl (fun c => (body_obligation m c).loose)
    (fun _ => 0) O₀ (fun c => (owed_first m c).trans (zero_add _).symm) (owed_last m) (fun _ => rfl) (share_full m)
    (V₁ m) (V₂ m) (args_kept m)
    (dealt (partials m) (scale m)) (fun c => semVal (barCell c) 0) (fun c => iprop(∃ K, before (partials m) (scale m) K c))
    (fun c => semVal (barCell c) 0) (open_region (partials m) (scale m)) (enter m) (leave m)
    (fun c => by iintro H; imodintro; iexact H)
    (fun _ => 0)
    ⟨fun c w s => by rw [L_tc]; exact Finset.mem_singleton_self _,
      fun c w s => by revert w s; exact (by decide : ∀ (w : Fin 3) (s : Fin (cfg0.win w).nbuf), lv ((0 : Dev nD).tc, .dma ((cfg0.win w).sem s)) () ≤ 0),
      fun c t g u h => levels m c t g u h⟩
    (fun _ => iprop(emp))
    (fun _ _ => rfl) (fun c w => arrays_last m c w)

theorem region_pre (c : Dev nD) : iprop(StableHlo.held (c : Thread nD τ) bufs (V₁ m c) ∗ rest m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) args (V₁ m c) ∗ emp) ∗ dealt (partials m) (scale m) c ∗ ∃ W, owes (c : Thread nD τ) (0 + O₀ c) W)
  rw [bufs_split, zero_add]
  unfold rest
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device holds when the program has ended. -/
abbrev Tₙ (c : Dev nD) : sProp 𝕄 := iprop(StableHlo.held (c : Thread nD τ) bufs (V₂ m c) ∗ semVal (barCell c) 0)

theorem region_post (c : Dev nD) : (region m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) args (V₂ m c) ∗ emp) ∗ semVal (barCell c) 0 ∗ ∃ W, owes (c : Thread nD τ) (0 : CellTallies nD τ sig Unit) W) ⊢ _
  dsimp only [Tₙ]
  rw [bufs_split]
  iintro ⟨Ha, -, ⟨Hr, -⟩, Hb, HO⟩
  isplitr [HO]
  · isplitl [Ha Hr]
    · isplitl [Ha] <;> iassumption
    iexact Hb
  iexact HO

def segs : List (Pipeline.Seg (pcfgs (F := F)) adm (pdats m) () defs₀ 𝒱₀ L lv) := [.host (hostPart m), .region (region m)]

theorem main_eq (c : Dev nD) : main (F := F) c = Pipeline.Seg.run (segs m) := main_segs adm (pdats m) () 𝒱₀ L lv (hostPart m) (region m) rfl c

/-! ## The tokens -/

/-- The two payments of every barrier cell, and the one of every copy cell. -/
def barToks : Finset (GSem nD τ sig × ℕ × Bool) :=
  Finset.univ.map ⟨fun x : Dev nD × Bool => (barCell x.1, 0, x.2), fun _ _ h => Prod.ext (barCell_inj (Prod.ext_iff.mp h).1) (congrArg (fun t => t.2.2) h)⟩
def copyToks : Finset (GSem nD τ sig × ℕ × Bool) :=
  Finset.univ.map ⟨fun x : Dev nD × Fin 4 × Fin 8 => (dCell x.2.1 x.1 x.2.2, 0, false), fun _ _ h => by
    obtain ⟨h1, h2, h3⟩ := dCell_inj (Prod.ext_iff.mp h).1
    exact Prod.ext h2 (Prod.ext h1 h3)⟩
abbrev allToks : Finset (GSem nD τ sig × ℕ × Bool) := barToks ∪ copyToks

theorem toks_disjoint : Disjoint barToks copyToks := by
  rw [Finset.disjoint_left]
  intro g h1 h2
  obtain ⟨x, -, rfl⟩ := Finset.mem_map.mp h1
  obtain ⟨y, -, h⟩ := Finset.mem_map.mp h2
  exact dCell_ne_bar _ _ _ _ (congrArg Prod.fst h)
theorem cells_disjoint : Disjoint barCells dCells := by
  rw [Finset.disjoint_left]
  intro g h1 h2
  obtain ⟨x, -, rfl⟩ := Finset.mem_map.mp h1
  obtain ⟨y, -, h⟩ := Finset.mem_map.mp h2
  exact dCell_ne_bar _ _ _ _ h

/-- The tokens of the payments device `c` makes. -/
def myToks (c : Dev nD) : sProp 𝕄 :=
  iprop((dutyTok ER (barCell (xp c)) 0 true ∗ dutyTok ER (barCell (yp c)) 0 false) ∗ bigSep Finset.univ fun i : Fin 8 => payToks c i)

/-- Every token goes to the device that pays with it. -/
theorem toks_deal : bigSep allToks (fun x => (dutyTok ER x.1 x.2.1 x.2.2 : sProp 𝕄)) = bigSep Finset.univ fun c : Dev nD => myToks c := by
  have hb : bigSep barToks (fun x => (dutyTok ER x.1 x.2.1 x.2.2 : sProp 𝕄))
      = bigSep Finset.univ fun c : Dev nD => iprop(dutyTok ER (barCell (xp c)) 0 true ∗ dutyTok ER (barCell (yp c)) 0 false) := by
    have hx := bigSep_univ_equiv xperm fun c : Dev nD => (dutyTok ER (barCell c) 0 true : sProp 𝕄)
    have hy := bigSep_univ_equiv yperm fun c : Dev nD => (dutyTok ER (barCell c) 0 false : sProp 𝕄)
    have e := bigSep_sep' (s := Finset.univ) (Φ := fun c : Dev nD => (dutyTok ER (barCell c) 0 true : sProp 𝕄)) (Ψ := fun c => dutyTok ER (barCell c) 0 false)
    unfold barToks
    rw [bigSep_map, bigSep_univ_prod, bigSep_sep']
    refine ((bigSep_congr fun c _ => ?_).trans e).trans (congrArg₂ (fun A B : sProp 𝕄 => iprop(A ∗ B)) hx hy)
    rw [bigSep_univ_eq_bigSepL [true, false] (by decide) (by decide), bigSepL_cons_cons, bigSepL_singleton]
    rfl
  have hd : bigSep copyToks (fun x => (dutyTok ER x.1 x.2.1 x.2.2 : sProp 𝕄))
      = bigSep Finset.univ fun c : Dev nD => bigSep Finset.univ fun i : Fin 8 => (payToks c i : sProp 𝕄) := by
    have h (c : Dev nD) : (bigSep Finset.univ fun x : Fin 4 × Fin 8 => (dutyTok ER (dCell x.1 c x.2) 0 false : sProp 𝕄))
        = iprop((bigSep Finset.univ fun i => dutyTok ER (dCell 0 c i) 0 false) ∗ (bigSep Finset.univ fun i => dutyTok ER (dCell 1 c i) 0 false)
          ∗ (bigSep Finset.univ fun i => dutyTok ER (dCell 2 c i) 0 false) ∗ bigSep Finset.univ fun i => dutyTok ER (dCell 3 c i) 0 false) := by
      rw [by_chunk fun k i => (dutyTok ER (dCell k c i) 0 false : sProp 𝕄)]; simp only [bigSep_sep']
    unfold copyToks
    rw [bigSep_map, bigSep_univ_prod]
    refine (bigSep_congr fun c _ => h c).trans ?_
    rw [bigSep_congr fun c _ => payToks_all (F := F) c]
    simp only [bigSep_sep']
    rw [bigSep_univ_equiv xperm fun c : Dev nD => (bigSep Finset.univ fun i => dutyTok ER (dCell 1 c i) 0 false : sProp 𝕄),
      bigSep_univ_equiv yperm fun c : Dev nD => (bigSep Finset.univ fun i => dutyTok ER (dCell 3 c i) 0 false : sProp 𝕄)]
    rfl
  unfold allToks myToks
  rw [bigSep_union toks_disjoint, hb, hd]
  exact (bigSep_sep' ..).symm

/-! ## The launch credit -/

/-- A family of equal debts on different cells comes to one debt at each. -/
theorem debts_hit {ι : Type} [Fintype ι] (f : ι → GSem nD τ sig) (hf : Function.Injective f) (n : ℕ) (x : ι) :
    ∑ y, (tallyAt (f y) () n : CellTallies nD τ sig Unit) (f x) () = n := by
  classical
  rw [Fintype.sum_eq_single x fun y hy => by rw [tallyAt_apply, if_neg fun h => hy (hf h.1.symm)], tallyAt_apply, if_pos ⟨rfl, rfl⟩]
theorem debts_miss {ι : Type} [Fintype ι] (f : ι → GSem nD τ sig) (n : ℕ) (g : GSem nD τ sig) (h : ∀ y, f y ≠ g) :
    ∑ y, (tallyAt (f y) () n : CellTallies nD τ sig Unit) g () = 0 :=
  Finset.sum_eq_zero fun y _ => by rw [tallyAt_apply, if_neg fun h' => h y h'.1.symm]

/-- What the devices owe a cell, family by family. -/
theorem owed_all (g : GSem nD τ sig) :
    ∑ d : Dev nD, O₀ d g () = (∑ x : Dev nD × Fin 8, (tallyAt (dCell 3 (yp x.1) x.2) () N : CellTallies nD τ sig Unit) g ())
      + (∑ x : Dev nD × Fin 8, (tallyAt (dCell 1 (xp x.1) x.2) () N : CellTallies nD τ sig Unit) g ())
      + (∑ d : Dev nD, (tallyAt (barCell (yp d)) () 1 : CellTallies nD τ sig Unit) g ())
      + ∑ d : Dev nD, (tallyAt (barCell (xp d)) () 1 : CellTallies nD τ sig Unit) g () := by
  unfold O₀ owedX owedY
  simp only [Pi.add_apply, Finsupp.add_apply, Finset.sum_add_distrib, Finset.sum_apply, Finsupp.finset_sum_apply, Fintype.sum_prod_type]

theorem xs_inj : Function.Injective fun x : Dev nD × Fin 8 => dCell 1 (xp x.1) x.2 := fun x y h => by
  obtain ⟨-, h2, h3⟩ := dCell_inj h
  exact Prod.ext (xperm.injective h2) h3
theorem ys_inj : Function.Injective fun x : Dev nD × Fin 8 => dCell 3 (yp x.1) x.2 := fun x y h => by
  obtain ⟨-, h2, h3⟩ := dCell_inj h
  exact Prod.ext (yperm.injective h2) h3

theorem owed_bar (c : Dev nD) : ∑ d : Dev nD, O₀ d (barCell c) () = 2 := by
  have h1 := debts_hit (fun d => barCell (xp d)) (fun _ _ h => xperm.injective (barCell_inj h)) 1 (xp c)
  have h2 := debts_hit (fun d => barCell (yp d)) (fun _ _ h => yperm.injective (barCell_inj h)) 1 (yp c)
  rw [xp_xp] at h1
  rw [yp_yp] at h2
  rw [owed_all, h1, h2, debts_miss _ _ _ fun x => dCell_ne_bar _ _ _ _, debts_miss _ _ _ fun x => dCell_ne_bar _ _ _ _]
theorem owed_x (c : Dev nD) (i : Fin 8) : ∑ d : Dev nD, O₀ d (dCell 1 c i) () = N := by
  have h := debts_hit _ xs_inj N (xp c, i)
  dsimp only at h
  rw [xp_xp] at h
  rw [owed_all, h, debts_miss _ _ _ fun x h => absurd (dCell_inj h).1 (by decide), debts_miss _ _ _ fun d => (dCell_ne_bar _ _ _ _).symm,
    debts_miss _ _ _ fun d => (dCell_ne_bar _ _ _ _).symm, zero_add, add_zero, add_zero]
theorem owed_y (c : Dev nD) (i : Fin 8) : ∑ d : Dev nD, O₀ d (dCell 3 c i) () = N := by
  have h := debts_hit _ ys_inj N (yp c, i)
  dsimp only at h
  rw [yp_yp] at h
  rw [owed_all, h, debts_miss _ _ _ fun x h => absurd (dCell_inj h).1 (by decide), debts_miss _ _ _ fun d => (dCell_ne_bar _ _ _ _).symm,
    debts_miss _ _ _ fun d => (dCell_ne_bar _ _ _ _).symm, add_zero, add_zero, add_zero]

theorem credit_of (g : GSem nD τ sig) {n : ℕ} (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The receive semaphores of both axes. -/
def arrivals : Finset (SemLoc sig) := Finset.univ.map ⟨fun x : Bool × Fin 8 => SemLoc.dma (dsem (if x.1 then 1 else 3) x.2), fun x y h => by
  obtain ⟨h1, h2⟩ := dsem_inj (SemLoc.dma.inj h)
  refine Prod.ext ?_ h2
  revert h1
  cases x.1 <;> cases y.1 <;> decide⟩

theorem credits (c : Dev nD) :
    (Pipeline.launchCred O₀ c : sProp 𝕄) ⊢ iprop(cred (tallyAt (barCell c) () 2) ∗ bigSep Finset.univ fun i : Fin 8 => credIn c i) := by
  have hs : arrivals ⊆ Finset.univ.erase (SemLoc.reg barS) := fun sm h => by
    obtain ⟨x, -, rfl⟩ := Finset.mem_map.mp h
    exact Finset.mem_erase.mpr ⟨(fun h => by cases h), Finset.mem_univ _⟩
  have he : (bigSep arrivals fun sm : SemLoc sig => (cred (tallyOn ((c.tc : Thread nD τ), sm) (launchCredit (Pipeline.owing O₀) 0 ((c.tc : Thread nD τ), sm))) : sProp 𝕄))
      = bigSep Finset.univ fun i : Fin 8 => credIn c i := by
    unfold arrivals
    rw [bigSep_map, bigSep_univ_prod, bigSep_univ_eq_bigSepL [true, false] (by decide) (by decide), bigSepL_cons_cons, bigSepL_singleton, credIn_all]
    refine congrArg₂ (fun A B : sProp 𝕄 => iprop(A ∗ B)) (bigSep_congr fun i _ => ?_) (bigSep_congr fun i _ => ?_)
    · exact congrArg cred (credit_of _ (owed_x c i))
    · exact congrArg cred (credit_of _ (owed_y c i))
  unfold Pipeline.launchCred
  rw [bigSep_univ_at _ (SemLoc.reg barS), credit_of _ (owed_bar c), ← he]
  exact sep_mono_right (bigSep_subset hs)

/-! ## The launch -/

/-- The ghost state at launch: the staging cells', and the protocol's. -/
abbrev uTalk : UB := launchOf barCells dCells allToks
def u₀ : UU := (initOf (Pipeline.cells (Pipeline.pin (pcfgs (F := F)) adm) cellOf_inj) (Pipeline.launchToks (Pipeline.pin (pcfgs (F := F)) adm) cellOf_inj), uTalk)

/-- The protocol's ghost state, kept whole with device 0 until it is dealt. -/
def G (c : Dev nD) : sProp 𝕄 := if c = 0 then BI.own (ER uTalk) else iprop(emp)
theorem G_all : bigSep Finset.univ (G (F := F)) = BI.own (ER uTalk) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device is dealt that no other device may hold. -/
def share (c : Dev nD) : sProp 𝕄 := iprop(atPos ER (barCell c) 0 ∅ 0 ∗ openToks c ∗ myToks c)
/-- What of a device's launch holdings is not the protocol's ghost state. -/
def holdings (c : Dev nD) : sProp 𝕄 :=
  iprop(StableHlo.held (c : Thread nD τ) bufs (V₀ m c) ∗ (cred (tallyAt (barCell c) () 2) ∗ bigSep Finset.univ fun i : Fin 8 => credIn c i)
    ∗ owes (c : Thread nD τ) (O₀ c) ∅ ∗ ∃ r, prngReg c r)

/-- What a device holds when the program starts. -/
abbrev T₀ (c : Dev nD) : sProp 𝕄 := iprop(StableHlo.held (c : Thread nD τ) bufs (V₀ m c) ∗ rest m c)

theorem start_of (K : GSem nD τ sig → ℕ) (c : Dev nD) : iprop(records (partials m) (scale m) K ∗ (share c ∗ holdings m c)) ⊢ T₀ m c := by
  unfold share holdings T₀ rest dealt myToks
  iintro ⟨#HR, ⟨Ha, Ho, ⟨Ht1, Ht2⟩, Hp⟩, Hh, ⟨Hc, Hcr⟩, HO, Hr⟩
  isplitl [Hh]; · iexact Hh
  isplitl [Ha Ho Ht1 Ht2 Hp Hc Hcr]
  · isplitr; · iexists K; iexact HR
    isplitl [Hc]; · iexact Hc
    isplitl [Ha]; · iexact Ha
    isplitl [Ht1]; · iexact Ht1
    isplitl [Ht2]; · iexact Ht2
    isplitl [Ho]; · iexact Ho
    isplitl [Hp]; · iexact Hp
    iexact Hcr
  isplitl [Hr]; · iexact Hr
  iexists ∅; iexact HO

theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(holdings m c ∗ (semVal (barCell c) 0 ∗ G c)) : sProp 𝕄) := by
    rw [show unscopedBufs c (fun b => m ((c : Thread nD τ).loc b)) = StableHlo.held (c : Thread nD τ) bufs (V₀ m c) from bufs_held c (V₀ m c), counters_eq]
    unfold holdings
    iintro ⟨Hh, Hs, HO, Hc, Hp, HG⟩
    isplitr [Hs HG]
    · isplitl [Hh]; · iexact Hh
      isplitl [Hc]; · iapply (credits (F := F) c); iexact Hc
      isplitl [HO]; · iexact HO
      iexists (ρ c); iexact Hp
    isplitl [Hs] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => holdings m c) ∗ (bigSep barCells fun g => semVal g 0) ∗ BI.own (ER uTalk)) : sProp 𝕄) := by
    have hb : (bigSep Finset.univ fun c : Dev nD => (semVal (barCell c) 0 : sProp 𝕄)) = bigSep barCells fun g => semVal g 0 := by
      unfold barCells; rw [bigSep_map]; rfl
    rw [← hb, ← G_all, ← bigSep_sep', ← bigSep_sep']
    exact bigSep_mono fun c _ => hcore c
  have hat : (bigSep barCells fun g => (atPos ER g 0 ∅ 0 : sProp 𝕄)) = bigSep Finset.univ fun c : Dev nD => atPos ER (barCell c) 0 ∅ 0 := by
    unfold barCells; rw [bigSep_map]; rfl
  have hop : (bigSep dCells fun g => (openTok ER g : sProp 𝕄)) = bigSep Finset.univ fun c : Dev nD => openToks c := by
    unfold dCells openToks; rw [bigSep_map, bigSep_univ_prod]; rfl
  have hsplit (K : GSem nD τ sig → ℕ) : (bigSep (barCells ∪ dCells) fun g => (cellInv ER (talkRd (partials m) (scale m)) (K g) g : sProp 𝕄))
      = iprop((bigSep barCells fun g => cellInv ER (talkRd (partials m) (scale m)) (K g) g) ∗ bigSep dCells fun g => cellInv ER (talkRd (partials m) (scale m)) (K g) g) :=
    bigSep_union cells_disjoint
  iintro ⟨H, -⟩
  ihave H' := hall $$ H
  icases H' with ⟨HB, Hv, Hu⟩
  imod (Rounds.fund_launch ER (talkRd (partials m) (scale m)) cells_disjoint (fun g _ h => h) allToks) $$ [Hv Hu] with ⟨%K, -, #Hinv, #Hr, Hat, Hop, Htok⟩
  · isplitl [Hv] <;> iassumption
  imodintro
  iapply (bigSep_with_persistent (R := records (partials m) (scale m) K) (Φ := fun c => iprop(share c ∗ holdings m c)) fun c _ => start_of m K c)
  isplitr
  · unfold records
    ihave Hi := (Entails.of_eq (hsplit K)) $$ Hinv
    icases Hi with ⟨#H1, #H2⟩
    isplitr; · iexact H1
    isplitr; · iexact H2
    iexact Hr
  unfold share
  simp only [bigSep_sep']
  isplitr [HB]
  · isplitl [Hat]; · iapply (Entails.of_eq hat) $$ Hat
    isplitl [Hop]; · iapply (Entails.of_eq hop) $$ Hop
    iapply (Entails.of_eq (toks_deal (F := F))) $$ Htok
  · iexact HB

/-! ## The run -/

theorem kept0 (c : Dev nD) : V₂ m c (Proc.devRef .tc main_arg0) = m ((c : Thread nD τ).loc main_arg0) :=
  (V₂_of_ne m c (by decide)).trans (V_main_arg0 m c)
theorem kept1 (c : Dev nD) : V₂ m c (Proc.devRef .tc main_arg1) = m ((c : Thread nD τ).loc main_arg1) :=
  (V₂_of_ne m c (by decide)).trans (V_main_arg1 m c)

/-- A buffer of the device, whole. -/
abbrev whole (c : Dev nD) (b : Ref sig .tc) (W : Valuation τ sig (Elt F)) : sProp 𝕄 := ((c : Thread nD τ).loc b) ↦{fullShare} W (Proc.devRef .tc b)

theorem bufs_each (c : Dev nD) (W : Valuation τ sig (Elt F)) : (StableHlo.held (c : Thread nD τ) bufs W : sProp 𝕄)
    = iprop(whole c main_arg0 W ∗ whole c main_arg1 W ∗ whole c main_v3 W ∗ whole c main_v1 W ∗ whole c main_v2 W) := by
  unfold StableHlo.held
  rw [bigSep_eq_bigSepL_of_eq [Proc.devRef .tc main_arg0, Proc.devRef .tc main_arg1, Proc.devRef .tc main_v3, Proc.devRef .tc main_v1,
    Proc.devRef .tc main_v2] (by decide) (by decide)]
  rfl

theorem only_barrier : ∀ sm : SemLoc sig, sm.isScoped .tc = false → sm = .reg barS := by decide

/-- Each buffer that device `c` holds at the end is seen in the final state. -/
abbrev Ended (c : Dev nD) (s : MemSt nD τ sig (Elt F)) : Prop :=
  (s.mem ((c : Thread nD τ).loc main_arg0) = V₂ m c (Proc.devRef .tc main_arg0) ∧ s.mem ((c : Thread nD τ).loc main_arg1) = V₂ m c (Proc.devRef .tc main_arg1)
    ∧ s.mem ((c : Thread nD τ).loc main_v3) = V₂ m c (Proc.devRef .tc main_v3)) ∧ s.sem (barCell c) = 0

set_option backward.isDefEq.respectTransparency.types false in
/-- From any memory and no counter set, every fair execution ends, the arguments are as they were, the result of every device
    is `result`, and every semaphore is back at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v3) = result m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => region_pre m c, fun c => region_post m c⟩)
    (hinit := init m ρ)
    (QY := Ended m)
    (hfin := fun c s' => by
      dsimp only [Tₙ]
      rw [bufs_each]
      iintro ⟨⟨⟨H0, H1, H3, -⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h2⟩, -⟩ := h c
        exact ⟨h0.trans (kept0 m c), h1.trans (kept1 m c), h2.trans (V₂_out m c)⟩,
      sem_eq_zero hs fun c sm hsm => by
        obtain rfl := only_barrier sm hsm
        exact (h c).2⟩)

end Cert.KernelIdealTalk

end
-- ==== Proof.Scalars.lean ====
/-
The arithmetic on extended reals that the value claim rests on: dividing by a square root is multiplying by the
reciprocal square root wherever the radicand is positive, and a mean of squares with a positive literal added is positive.
-/
module

public import Idealize.ShloMosaic.PureOps.Ideal

@[expose] public section

noncomputable section

namespace Cert.Rows

open Idealize.ShloMosaic

/-- The literal added to the mean is positive. -/
theorem eps_pos : (0 : EReal) < Ideal.ofBits .f32 0x358637BD#32 := by
  simp [Ideal.ofBits, Ideal.ieee, -EReal.coe_mul]

/-- The row length, as a literal, is positive. -/
theorem len_pos : (0 : EReal) < Ideal.ofBits .f32 0x44800000#32 := by
  simp [Ideal.ofBits, Ideal.ieee, -EReal.coe_mul]

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem div_nonneg {x y : EReal} (hx : 0 ≤ x) (hy : 0 < y) : 0 ≤ Ideal.div x y := by
  unfold Ideal.div
  rw [if_neg hy.ne']
  exact mul_nonneg hx (EReal.inv_nonneg_of_nonneg hy.le)

/-- Multiplying by a reciprocal square root is dividing by the square root. -/
theorem mul_rsqrt_eq_div_sqrt (s : EReal) {v : EReal} (hv : 0 < v) : s * Ideal.rsqrt v = Ideal.div s (Ideal.sqrt v) := by
  induction v with
  | bot => exact absurd hv (by simp)
  | top =>
    show s * 0 = Ideal.div s ⊤
    rw [Ideal.div, if_neg (by simp), EReal.inv_top]
  | coe r =>
    have hr : 0 < r := EReal.coe_pos.mp hv
    have hs : (0 : ℝ) < √r := Real.sqrt_pos.mpr hr
    have e1 : Ideal.rsqrt (r : EReal) = (((√r)⁻¹ : ℝ) : EReal) :=
      (if_neg (not_lt.mpr hr.le)).trans (if_neg hr.ne')
    have e2 : Ideal.sqrt (r : EReal) = ((√r : ℝ) : EReal) := if_neg (not_lt.mpr hr.le)
    have e3 : ((√r : ℝ) : EReal) ≠ 0 := (EReal.coe_pos.mpr hs).ne'
    rw [e1, e2, Ideal.div, if_neg e3, EReal.coe_inv]

/-- A row scaled to unit mean square and then by `g`, at entry `k`. -/
def normed {n : ℕ} (s : Fin n → EReal) (g : EReal) (k : Fin n) : EReal :=
  Ideal.div (s k) (Ideal.sqrt (Ideal.div (∑ l, s l * s l) (Ideal.ofBits .f32 0x44800000#32) + Ideal.ofBits .f32 0x358637BD#32)) * g

/-- The same with a reciprocal square root. -/
theorem normed_eq {n : ℕ} (s : Fin n → EReal) (g : EReal) (k : Fin n) :
    s k * Ideal.rsqrt (Ideal.div (∑ l, s l * s l) (Ideal.ofBits .f32 0x44800000#32) + Ideal.ofBits .f32 0x358637BD#32) * g = normed s g k := by
  rw [mul_rsqrt_eq_div_sqrt, normed]
  have h : 0 ≤ Ideal.div (∑ l, s l * s l) (Ideal.ofBits .f32 0x44800000#32) :=
    div_nonneg (Finset.sum_nonneg fun l _ => square_nonneg (s l)) len_pos
  exact lt_of_lt_of_le eps_pos (le_add_of_nonneg_left h)

end Cert.Rows

end
-- ==== Proof.ReferenceIdealValue.lean ====
/-
The reference: what it leaves, entry by entry, and that its run touches no semaphore.
-/
module

public import proofs.«01_k».proof.Defs
public import proofs.«01_k».proof.Proof.Scalars
public import proofs.«01_k».proof.Proof.Gen.ReferenceIdeal
public import proofs.«01_k».proof.Proof.Gen.ReferenceIdeal.Run
public import Idealize.ShloMosaic.Lib.Pointwise

@[expose] public section

noncomputable section

namespace Cert.ReferenceIdealValue

open Cert.ReferenceIdeal Cert.ReferenceIdeal.Gen Cert.Rows
open Idealize.ShloMosaic Idealize.ShloMosaic.TcCoe Idealize.SL.Sem

set_option maxRecDepth 16384

/-- The reference's result, as a function of its two arguments. -/
def refOut (A : FVec Ideal S2x2048x1024 .f32) (G : FVec Ideal S1024 .f32) : FVec Ideal S2048x1024 .f32 :=
  have y : FVec Ideal S2048x1024 .f32 := Host.reduceAdd A (constant S_ .f32 0x00000000#32) reducesTo_S2x2048x1024_S2048x1024_d0 h_S_
  mulf (Host.divf y (broadcastInDim S2048x1024 ![0, 1] bcast_S2048x1_S2048x1024_0_1 (Host.sqrt (addf (Host.divf
      (broadcastInDim S2048x1 ![0] bcast_S2048_S2048x1_0 (Host.reduceAdd (mulf y y) (constant S_ .f32 0x00000000#32) reducesTo_S2048x1024_S2048_d1 h_S_))
      (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 G))

/-- Its entries: the rows of the sum over the leading axis, each scaled to unit mean square. -/
theorem refOut_at (A : FVec Ideal S2x2048x1024 .f32) (G : FVec Ideal S1024 .f32) (R : Fin 2048) (l : Fin 1024) :
    refOut A G (ix2 R l) = normed (fun k => A (ix3 0 R k) + A (ix3 1 R k)) (G (ix1 l)) l := by
  pointwise [refOut, normed, Fin.sum_univ_two]

/-- The program has no semaphore, so every counter is where it was. -/
theorem no_sem (f : GSem nD τ sig → ℤ) : f = fun _ => 0 := by
  funext g
  obtain ⟨⟨d, p⟩, sm⟩ := g
  cases sm with
  | reg s => exact s.elim0
  | dma s => exact s.elim0

variable (m : (ℓ : Loc nD τ sig) → Buf (Elt Ideal) ℓ) (ρ : Dev nD → PrngReg)

/-- The run, with the result named. -/
theorem run : θ_run (defs (F := Ideal)) (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

theorem quiescent : Cert.quiescent_ReferenceIdeal := fun m g _ =>
  (θ_run _ _ _).mono (fun r h => ⟨fun c => ⟨(h c).2.1, (h c).2.2⟩, no_sem r.2.sem⟩) (run m g)

end Cert.ReferenceIdealValue

end
-- ==== Proof.KernelIdealValue.lean ====
/-
What the kernel leaves, entry by entry, is what the reference computes.

Row `R` of the whole result is made by the devices of mesh row `R / 1024`. Such a device adds its own row `R` of partial
sums and the one its first-axis partner sent, and scales the sum to unit mean square; the reference does the same with the
sum over the leading axis.
-/
module

public import proofs.«01_k».proof.Proof.Scalars
public import proofs.«01_k».proof.Proof.KernelIdealRegion
public import proofs.«01_k».proof.Proof.ReferenceIdealValue
public import Idealize.ShloMosaic.Lib.Pointwise
public import Idealize.ShloMosaic.Lib.Layout

@[expose] public section

noncomputable section

namespace Cert.KernelIdealTalk

open Cert.Rows Cert.KernelIdeal Cert.KernelIdeal.Gen

open Idealize.ShloMosaic
open Idealize.ShloMosaic.TcCoe

set_option maxRecDepth 16384

/-- What a chunk computes from the three blocks that it reads, at an entry. -/
theorem pay_at (a : Vec Ideal S64x1024 .f32) (b : Vec Ideal S1x64x1024 .f32) (g : Vec Ideal S1x1024 .f32) (r : Fin 64) (l : Fin 1024) :
    k0_pay1 (F := Ideal) a b g (ix2 r l) = normed (fun k => a (ix2 r k) + b (ix3 0 r k)) (g (ix2 0 l)) l := by
  refine Eq.trans ?_ (normed_eq _ _ _)
  pointwise [k0_pay1]

/-! ## The blocks a chunk reads -/

section Chunk

variable (P : Dev nD → cc0_stg0_0.ty.Contents (Elt Ideal)) (Gm : Dev nD → cc0_stg1_0.ty.Contents (Elt Ideal))

/-- The partial sums of device `c` as a matrix, and its scale as a row. -/
abbrev rowsOf (c : Dev nD) : Vec Ideal S2048x1024 .f32 := P c
abbrev scaleOf (c : Dev nD) : Vec Ideal S1x1024 .f32 := Gm c

theorem own_at (c : Dev nD) (i : Fin 8) (r : Fin 64) (l : Fin 1024) (R : Fin 2048) (hR : (R : ℕ) = 1024 * (c.val / 2) + orow c i + r) :
    pM.view.readAt (Elt Ideal) (Rect.unit (s := S2048x1024) (k0_off2 c (cw i)) S64x1024.size (k0_off2_inb c i)).toLoadRect (P c) (ix2 r l)
      = rowsOf P c (ix2 R l) := by
  have h := ValueKit.view_emb_slice_whole_unit_val cc0_stg0_0 (k0_off2 c (cw i)) S64x1024.size (k0_off2_inb c i) (ix2 r l)
  refine congrArg (P c) (show (View.slice (View.whole cc0_stg0_0) (Rect.unit (s := S2048x1024) (k0_off2 c (cw i)) S64x1024.size (k0_off2_inb c i))).emb
    (ix2 r l) = ix2 R l from ?_)
  funext a
  refine Fin.ext ((h a).trans ((congrArg (· + ((ix2 r l a : Fin _) : ℕ)) (congrFun (k0_off2_eq c i) a)).trans ?_))
  match a with
  | ⟨0, _⟩ => show 1024 * (c.val / 2) + 512 * (c.val % 2) + 64 * i.val + r.val = R.val; rw [hR]; unfold orow; omega
  | ⟨1, _⟩ => show 0 + l.val = l.val; omega

theorem sent_at (c : Dev nD) (i : Fin 8) (r : Fin 64) (l : Fin 1024) (R : Fin 2048) (hR : (R : ℕ) = 1024 * (c.val / 2) + orow c i + r) :
    rM.view.readAt (Elt Ideal) (Rect.unit (s := S8x64x1024) ![i.val, 0, 0] S1x64x1024.size (inb_slot i)).toLoadRect (slotAt P c) (ix3 0 r l)
      = rowsOf P (xp c) (ix2 R l) := by
  have h := ValueKit.view_emb_slice_whole_unit_val cc0_scratch0 ![i.val, 0, 0] S1x64x1024.size (inb_slot i) (ix3 0 r l)
  have e : (View.slice (View.whole cc0_scratch0) (Rect.unit (s := S8x64x1024) ![i.val, 0, 0] S1x64x1024.size (inb_slot i))).emb (ix3 0 r l) = ix3 i r l := by
    funext a
    refine Fin.ext ((h a).trans ?_)
    match a with
    | ⟨0, _⟩ => rfl
    | ⟨1, _⟩ => show 0 + r.val = r.val; omega
    | ⟨2, _⟩ => show 0 + l.val = l.val; omega
  refine (congrArg (slotAt P c) e).trans ?_
  unfold slotAt
  exact congrArg (P (xp c)) (congrArg (fun R' : Fin 2048 => ix2 R' l) (Fin.ext hR.symm))

theorem scale_at (c : Dev nD) (l : Fin 1024) :
    gM.view.readAt (Elt Ideal) (Rect.unit (s := S1x1024) ![0, 0] S1x1024.size inb_S1x1024_S1x1024_0_0).toLoadRect (Gm c) (ix2 0 l)
      = scaleOf Gm c (ix2 0 l) := by
  have h := ValueKit.view_emb_slice_whole_unit_val cc0_stg1_0 ![0, 0] S1x1024.size inb_S1x1024_S1x1024_0_0 (ix2 0 l)
  refine congrArg (Gm c) (show (View.slice (View.whole cc0_stg1_0) (Rect.unit (s := S1x1024) ![0, 0] S1x1024.size inb_S1x1024_S1x1024_0_0)).emb
    (ix2 0 l) = ix2 0 l from ?_)
  funext a
  refine Fin.ext ((h a).trans ?_)
  match a with
  | ⟨0, _⟩ => rfl
  | ⟨1, _⟩ => show 0 + l.val = l.val; omega

/-- An entry of what a chunk stores. -/
theorem chunk_at (c : Dev nD) (i : Fin 8) (r : Fin 64) (l : Fin 1024) (R : Fin 2048) (hR : (R : ℕ) = 1024 * (c.val / 2) + orow c i + r) :
    chunkVal P Gm c i (ix2 r l) = normed (fun k => rowsOf P c (ix2 R k) + rowsOf P (xp c) (ix2 R k)) (scaleOf Gm c (ix2 0 l)) l := by
  unfold chunkVal
  rw [pay_at, scale_at]
  congr 1
  funext k
  rw [own_at P c i r k R hR, sent_at P c i r k R hR]

/-- An entry of a result. -/
theorem out_at (c : Dev nD) (j : Fin 1024) (l : Fin 1024) (R : Fin 2048) (hR : (R : ℕ) = 1024 * (c.val / 2) + j) :
    ∃ d : Dev nD, d.val / 2 = c.val / 2 ∧ (outAt P Gm c : Vec Ideal S1024x1024 .f32) (ix2 j l)
      = normed (fun k => rowsOf P d (ix2 R k) + rowsOf P (xp d) (ix2 R k)) (scaleOf Gm d (ix2 0 l)) l := by
  have hj := j.isLt
  refine ⟨rowDev c ⟨j / 512, by omega⟩, ?_, ?_⟩
  · show (2 * (c.val / 2) + j / 512) / 2 = _; omega
  · exact chunk_at P Gm _ _ _ _ R (by rw [hR]; unfold orow rowDev; show _ = 1024 * ((2 * (c.val / 2) + j / 512) / 2) + (512 * ((2 * (c.val / 2) + j / 512) % 2) + 64 * (j % 512 / 64)) + j % 64; omega)

end Chunk

/-! ## The arrays of the launch -/

section Launch

variable (m : (ℓ : Loc nD τ sig) → Buf (Elt Ideal) ℓ)

/-- The arguments of device `c`, as arrays. -/
abbrev arg0 (c : Dev nD) : Vec Ideal S1x2048x1024 .f32 := m ((c : Thread nD τ).loc main_arg0)
abbrev arg1 (c : Dev nD) : Vec Ideal S1024 .f32 := m ((c : Thread nD τ).loc main_arg1)

theorem partials_eq (c : Dev nD) : partials m c = shapeCast S2048x1024 (arg0 m c) shapeCasts_S1x2048x1024_S2048x1024 := by
  unfold partials V₁
  after_results
  rfl

theorem scale_eq (c : Dev nD) : scale m c = shapeCast S1x1024 (arg1 m c) shapeCasts_S1024_S1x1024 := by
  unfold scale V₁
  after_results
  rfl

theorem partials_at (c : Dev nD) (R : Fin 2048) (l : Fin 1024) : rowsOf (partials m) c (ix2 R l) = arg0 m c (ix3 0 R l) := by
  unfold rowsOf
  rw [partials_eq]
  pointwise

theorem scale_row (c : Dev nD) (l : Fin 1024) : scaleOf (scale m) c (ix2 0 l) = arg1 m c (ix1 l) := by
  unfold scaleOf
  rw [scale_eq]
  pointwise

variable (A : FVec Ideal Cert.ReferenceIdeal.S2x2048x1024 .f32) (G : FVec Ideal Cert.ReferenceIdeal.S1024 .f32)

/-- Each device's arguments are its part of the reference's. -/
abbrev Parts : Prop := ∀ c : Dev nD, arg0 m c = Layout.blockN ⟨3, ![1, 2048, 1024]⟩ ⟨3, ![2, 2048, 1024]⟩ (Layout.meshBlock [2, 2] ![[0], [], []] c) A ∧ arg1 m c = G

/-- The block of the first axis that device `c` has. -/
theorem block_row (c : Dev nD) : Layout.meshLin [2, 2] c.val [0] = c.val / 2 := by revert c; decide

variable {m A G}

theorem part_at (H : Parts m A G) (c : Dev nD) (x : Fin 2) (hx : (x : ℕ) = c.val / 2) (R : Fin 2048) (l : Fin 1024) :
    arg0 m c (ix3 0 R l) = A (ix3 x R l) := by
  rw [(H c).1]
  refine congrArg A (funext fun a => Fin.ext ?_)
  match a with
  | ⟨0, _⟩ => show Layout.meshLin [2, 2] c.val [0] * 1 + 0 = x.val; rw [block_row]; omega
  | ⟨1, _⟩ => show 0 * 2048 + R.val = R.val; omega
  | ⟨2, _⟩ => show 0 * 1024 + l.val = l.val; omega

/-- Every device's result is its part of the reference's. -/
theorem result_eq (H : Parts m A G) (c : Dev nD) :
    result m c = Layout.blockN ⟨2, ![1024, 1024]⟩ ⟨2, ![2048, 1024]⟩ (Layout.meshBlock [2, 2] ![[0], []] c) (ReferenceIdealValue.refOut A G) := by
  funext j
  obtain ⟨j, l, rfl⟩ : ∃ (a : Fin 1024) (b : Fin 1024), j = ix2 a b := ⟨j 0, j 1, eq_ix2 j⟩
  have hc := dev_row_lt c
  have hj := j.isLt
  let R : Fin 2048 := ⟨1024 * (c.val / 2) + j, by omega⟩
  have e : (Layout.blockN ⟨2, ![1024, 1024]⟩ ⟨2, ![2048, 1024]⟩ (Layout.meshBlock [2, 2] ![[0], []] c) (ReferenceIdealValue.refOut A G)) (ix2 j l)
      = ReferenceIdealValue.refOut A G (ix2 R l) := by
    refine congrArg (ReferenceIdealValue.refOut A G) (funext fun a => Fin.ext ?_)
    match a with
    | ⟨0, _⟩ => show Layout.meshLin [2, 2] c.val [0] * 1024 + j.val = 1024 * (c.val / 2) + j.val; rw [block_row]; omega
    | ⟨1, _⟩ => show 0 * 1024 + l.val = l.val; omega
  obtain ⟨d, hd, hout⟩ := out_at (partials m) (scale m) c j l R rfl
  have hx := xp_row d
  rw [e, ReferenceIdealValue.refOut_at]
  refine hout.trans ?_
  rw [scale_row, (H d).2]
  congr 1
  funext k
  rw [partials_at, partials_at]
  rcases (show d.val / 2 = 0 ∨ d.val / 2 = 1 by omega) with h | h
  · rw [part_at H d 0 (by simp [h]), part_at H (xp d) 1 (by simp [hx, h])]
  · rw [part_at H d 1 (by simp [h]), part_at H (xp d) 0 (by simp [hx, h]), add_comm]

end Launch

end Cert.KernelIdealTalk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelSame
public import proofs.«01_k».proof.Proof.KernelIdealLaunch
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- The kernel's frame, over any floats. -/
theorem kernel_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0) :=
  (θ_run _ _ _).mono (fun _ h => ⟨fun c => ⟨(h.1 c).1, (h.1 c).2.1⟩, h.2⟩) (Cert.KernelIdealTalk.run_main m g)

/-- The kernel's result is the reference's, cut as the devices hold it. -/
theorem algebraic : Cert.algebraic_KernelIdeal_ReferenceIdeal := fun m g m' g' _ H =>
  ⟨Cert.ReferenceIdealValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.2.trans (Cert.KernelIdealTalk.result_eq H c), (h.1 c).1, (h.1 c).2.1⟩) (Cert.KernelIdealTalk.run_main m g),
    (θ_run _ _ _).mono (fun _ h => h 0) (Cert.ReferenceIdealValue.run m' g')⟩

theorem claim : Cert.Claim := ⟨Cert.Kernel.Gen.facts, Cert.KernelIdeal.Gen.facts, Cert.ReferenceIdeal.Gen.facts,
  Cert.KernelSame.quiescent kernel_run, fun m g _ => kernel_run m g, Cert.ReferenceIdealValue.quiescent, trivial, algebraic⟩

end Cert.Proof

end
